-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x2048x4x64 .f32 := (extf .f32 · bitsLt_bf16_f32) main_arg2
  let main_v12 : FVec F S2x2048x4x64 .f32 := Host.absf main_v11
  let main_cst_2 : FVec F S_ .f32 := constant S_ .f32 0x7F800000#32
  let main_v13 : FVec F S2x2048x4x64 .f32 := broadcastInDim S2x2048x4x64 ![] bcast_S_S2x2048x4x64 main_cst_2
  let main_v14 : IVec S2x2048x4x64 1 := cmpf .olt main_v12 main_v13
  let main_c_3 : IVec S_ 1 := constantI S_ 1 1#1
  let main_v15 : IVec S_ 1 := (fun x v => Host.reduce IntOp.andi x v reducesTo_S2x2048x4x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S3x2x2x256x128 : Shape := ⟨5, ![3, 2, 2, 256, 128]⟩
abbrev S3x2x8x1024 : Shape := ⟨4, ![3, 2, 8, 1024]⟩
abbrev S3x2x2 : Shape := ⟨3, ![3, 2, 2]⟩
abbrev S3x2 : Shape := ⟨2, ![3, 2]⟩
abbrev S_ : Shape := ⟨0, ![]⟩
abbrev S256x256 : Shape := ⟨2, ![256, 256]⟩
abbrev S8x256 : Shape := ⟨2, ![8, 256]⟩
abbrev S1x256x512 : Shape := ⟨3, ![1, 256, 512]⟩
abbrev S256x64 : Shape := ⟨2, ![256, 64]⟩
abbrev S1x256x4x64 : Shape := ⟨4, ![1, 256, 4, 64]⟩
abbrev S256x4x64 : Shape := ⟨3, ![256, 4, 64]⟩
abbrev S1x1x1x256x64 : Shape := ⟨5, ![1, 1, 1, 256, 64]⟩
abbrev S1x1x8x256 : Shape := ⟨4, ![1, 1, 8, 256]⟩
abbrev S1x1x1 : Shape := ⟨3, ![1, 1, 1]⟩
abbrev S1x1x1x256x128 : Shape := ⟨5, ![1, 1, 1, 256, 128]⟩
abbrev S256x128 : Shape := ⟨2, ![256, 128]⟩
abbrev S1x1 : Shape := ⟨2, ![1, 1]⟩
abbrev S1x1x8x1024 : Shape := ⟨4, ![1, 1, 8, 1024]⟩
abbrev S8x1024 : Shape := ⟨2, ![8, 1024]⟩
abbrev S256x8 : Shape := ⟨2, ![256, 8]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S3x2x2x256x128, .bf16⟩
  | .local _ .vmem, ⟨7, _⟩ => ⟨S3x2x2x256x128, .bf16⟩
  | .local _ .vmem, ⟨8, _⟩ => ⟨S3x2x8x1024, .f32⟩
  | .local _ .vmem, ⟨9, _⟩ => ⟨S3x2x8x1024, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_70 : BitVec 32 := 1#32
  let v86 : BitVec 32 := Scalar.muli v3 c1_i32_70
  let v87 : BitVec 32 := Scalar.addi c0_i32_71 v86
  v87.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_129 : BitVec 32 := 1#32
  let v148 : BitVec 32 := Scalar.muli v3 c1_i32_129
  let v149 : BitVec 32 := Scalar.addi c0_i32_130 v148
  v149.toNat
def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_143 : BitVec 32 := 1#32
  let v158 : BitVec 32 := Scalar.muli v3 c1_i32_143
  let v159 : BitVec 32 := Scalar.addi c0_i32_144 v158
  v159.toNat
def k0_dev7 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_209 : BitVec 32 := 1#32
  let v223 : BitVec 32 := Scalar.muli v3 c1_i32_209
  let v224 : BitVec 32 := Scalar.addi c0_i32_210 v223
  v224.toNat
def k0_dev8 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_271 : BitVec 32 := 1#32
  let v285 : BitVec 32 := Scalar.muli v3 c1_i32_271
  let v286 : BitVec 32 := Scalar.addi c0_i32_272 v285
  v286.toNat
def k0_dev9 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_285 : BitVec 32 := 1#32
  let v295 : BitVec 32 := Scalar.muli v3 c1_i32_285
  let v296 : BitVec 32 := Scalar.addi c0_i32_286 v295
  v296.toNat
def k0_dev10 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_336 : BitVec 32 := 1#32
  let v321 : BitVec 32 := Scalar.muli v4 c1_i32_336
  let v322 : BitVec 32 := Scalar.addi c0_i32_337 v321
  v322.toNat
def k0_dev11 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_387 : BitVec 32 := 1#32
  let v347 : BitVec 32 := Scalar.muli v4 c1_i32_387
  let v348 : BitVec 32 := Scalar.addi c0_i32_388 v347
  v348.toNat
def k0_dev12 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_427 : BitVec 32 := 1#32
  let v373 : BitVec 32 := Scalar.muli v4 c1_i32_427
  let v374 : BitVec 32 := Scalar.addi c0_i32_428 v373
  v374.toNat
def k0_dev13 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_478 : BitVec 32 := 1#32
  let v399 : BitVec 32 := Scalar.muli v4 c1_i32_478
  let v400 : BitVec 32 := Scalar.addi c0_i32_479 v399
  v400.toNat
def k0_dev14 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_529 : BitVec 32 := 1#32
  let v425 : BitVec 32 := Scalar.muli v4 c1_i32_529
  let v426 : BitVec 32 := Scalar.addi c0_i32_530 v425
  v426.toNat
def k0_dev15 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_569 : BitVec 32 := 1#32
  let v451 : BitVec 32 := Scalar.muli v4 c1_i32_569
  let v452 : BitVec 32 := Scalar.addi c0_i32_570 v451
  v452.toNat
def k0_dev16 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_618 : BitVec 32 := 1#32
  let v477 : BitVec 32 := Scalar.muli v5 c1_i32_618
  let v478 : BitVec 32 := Scalar.addi c0_i32_619 v477
  v478.toNat
def k0_dev17 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_669 : BitVec 32 := 1#32
  let v503 : BitVec 32 := Scalar.muli v5 c1_i32_669
  let v504 : BitVec 32 := Scalar.addi c0_i32_670 v503
  v504.toNat
def k0_dev18 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_709 : BitVec 32 := 1#32
  let v529 : BitVec 32 := Scalar.muli v5 c1_i32_709
  let v530 : BitVec 32 := Scalar.addi c0_i32_710 v529
  v530.toNat
def k0_dev19 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_760 : BitVec 32 := 1#32
  let v555 : BitVec 32 := Scalar.muli v5 c1_i32_760
  let v556 : BitVec 32 := Scalar.addi c0_i32_761 v555
  v556.toNat
def k0_dev20 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_811 : BitVec 32 := 1#32
  let v581 : BitVec 32 := Scalar.muli v5 c1_i32_811
  let v582 : BitVec 32 := Scalar.addi c0_i32_812 v581
  v582.toNat
def k0_dev21 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_851 : BitVec 32 := 1#32
  let v607 : BitVec 32 := Scalar.muli v5 c1_i32_851
  let v608 : BitVec 32 := Scalar.addi c0_i32_852 v607
  v608.toNat
def k0_dev22 (d0 : Dev nD) : Nat :=
  let c0_i32_1309_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1308_r0 : BitVec 32 := 1#32
  let v884_r0 : BitVec 32 := Scalar.muli v3 c1_i32_1308_r0
  let v885_r0 : BitVec 32 := Scalar.addi c0_i32_1309_r0 v884_r0
  v885_r0.toNat
def k0_dev23 (d0 : Dev nD) : Nat :=
  let c0_i32_1312_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1311_r0 : BitVec 32 := 1#32
  let v886_r0 : BitVec 32 := Scalar.muli v4 c1_i32_1311_r0
  let v887_r0 : BitVec 32 := Scalar.addi c0_i32_1312_r0 v886_r0
  v887_r0.toNat
def k0_dev24 (d0 : Dev nD) : Nat :=
  let c0_i32_1315_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1314_r0 : BitVec 32 := 1#32
  let v888_r0 : BitVec 32 := Scalar.muli v5 c1_i32_1314_r0
  let v889_r0 : BitVec 32 := Scalar.addi c0_i32_1315_r0 v888_r0
  v889_r0.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S_ : Shape := ⟨0, ![]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 70
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x256x256, .f32⟩
  | .hbm, ⟨6, _⟩ => ⟨S2x256x256, .bf16⟩
  | .hbm, ⟨7, _⟩ => ⟨S2x256x4x64, .bf16⟩
  | .hbm, ⟨8, _⟩ => ⟨S256, .i32⟩
  | .hbm, ⟨9, _⟩ => ⟨S256x1, .i32⟩
  | .hbm, ⟨10, _⟩ => ⟨S2048, .i32⟩
  | .hbm, ⟨11, _⟩ => ⟨S1x2048, .i32⟩
  | .hbm, ⟨12, _⟩ => ⟨S256x2048, .i32⟩
  | .hbm, ⟨13, _⟩ => ⟨S256x2048, .i32⟩
  | .hbm, ⟨14, _⟩ => ⟨S256x2048, .i32⟩
  | .hbm, ⟨15, _⟩ => ⟨S256x2048, .i32⟩
  | .hbm, ⟨16, _⟩ => ⟨S_, .i32⟩
  | .hbm, ⟨17, _⟩ => ⟨S256x2048, .i32⟩
  | .hbm, ⟨18, _⟩ => ⟨S256x2048, .i1⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x2048, .i1⟩
  | .hbm, ⟨26, _⟩ => ⟨S256x2048, .i1⟩
  | .hbm, ⟨27, _⟩ => ⟨S256x2048, .i1⟩
  | .hbm, ⟨28, _⟩ => ⟨S256x2048, .i1⟩
  | .hbm, ⟨29, _⟩ => ⟨S2x4x256x2048, .f32⟩
  | .hbm, ⟨30, _⟩ => ⟨S2x4x256x2048, .bf16⟩
  | .hbm, ⟨31, _⟩ => ⟨S2x4x256x2048, .f32⟩
  | .hbm, ⟨32, _⟩ => ⟨S_, .f32⟩
  | .hbm, ⟨33, _⟩ => ⟨S2x4x256x2048, .f32⟩
  | .hbm, ⟨34, _⟩ => ⟨S2x4x256x2048, .f32⟩
  | .hbm, ⟨35, _⟩ => ⟨S1x1x256x2048, .i1⟩
  | .hbm, ⟨36, _⟩ => ⟨S_, .f32⟩
  | .hbm, ⟨37, _⟩ => ⟨S_, .f32⟩
  | .hbm, ⟨38, _⟩ => ⟨S2x4x256x2048, .i1⟩
  | .hbm, ⟨39, _⟩ => ⟨S2x4x256x2048, .f32⟩
  | .hbm, ⟨40, _⟩ => ⟨S2x4x256x2048, .f32⟩
  | .hbm, ⟨41, _⟩ => ⟨S_, .f32⟩
  | .hbm, ⟨42, _⟩ => ⟨S2x4x256, .f32⟩
  | .hbm, ⟨43, _⟩ => ⟨S2x4x256x1, .f32⟩
  | .hbm, ⟨44, _⟩ => ⟨S2x4x256x2048, .f32⟩
  | .hbm, ⟨45, _⟩ => ⟨S2x4x256x2048, .f32⟩
  | .hbm, ⟨46, _⟩ => ⟨S2x4x256x2048, .f32⟩
  | .hbm, ⟨47, _⟩ => ⟨S_, .i1⟩
  | .hbm, ⟨48, _⟩ => ⟨S256, .i1⟩
  | .hbm, ⟨49, _⟩ => ⟨S1x1x256x1, .i1⟩
  | .hbm, ⟨50, _⟩ => ⟨S_, .f32⟩
  | .hbm, ⟨51, _⟩ => ⟨S2x4x256, .f32⟩
  | .hbm, ⟨52, _⟩ => ⟨S2x4x256x1, .f32⟩
  | .hbm, ⟨53, _⟩ => ⟨S_, .f32⟩
  | .hbm, ⟨54, _⟩ => ⟨S_, .f32⟩
  | .hbm, ⟨55, _⟩ => ⟨S2x4x256x1, .i1⟩
  | .hbm, ⟨56, _⟩ => ⟨S2x4x256x1, .f32⟩
  | .hbm, ⟨57, _⟩ => ⟨S2x4x256x1, .f32⟩
  | .hbm, ⟨58, _⟩ => ⟨S2x4x256x2048, .f32⟩
  | .hbm, ⟨59, _⟩ => ⟨S2x4x256x2048, .f32⟩
  | .hbm, ⟨60, _⟩ => ⟨S1x1x256x1, .i1⟩
  | .hbm, ⟨61, _⟩ => ⟨S_, .f32⟩
  | .hbm, ⟨62, _⟩ => ⟨S_, .f32⟩
  | .hbm, ⟨63, _⟩ => ⟨S2x4x256x2048, .i1⟩
  | .hbm, ⟨64, _⟩ => ⟨S2x4x256x2048, .f32⟩
  | .hbm, ⟨65, _⟩ => ⟨S2x4x256x2048, .f32⟩
  | .hbm, ⟨66, _⟩ => ⟨S2x4x64x256, .f32⟩
  | .hbm, ⟨67, _⟩ => ⟨S2x256x4x64, .f32⟩
  | .hbm, ⟨68, _⟩ => ⟨S2x256x256, .f32⟩
  | .hbm, ⟨69, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.KernelIdeal.Data.lean ====
/-
# What each device holds, round by round

The blocks a device loads from its staged inputs, the partial sums it computes from them, and the
sums after each exchange round, all as functions of the device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hyper

open Cert.KernelIdeal Cert.KernelIdeal.Gen

open Idealize.ShloMosaic
open Idealize.ShloMosaic.TcCoe

variable {F : FTy → Type} [FloatOps F] [Named F]

variable (m : (ℓ : Loc nD τ sig) → Buf (Elt F) ℓ) (ρ : Dev nD → PrngReg)

/-- The memory the launch starts from. -/
def s₀ : MemSt nD τ sig (Elt F) := ⟨m, fun _ => 0, ρ⟩

/-! ## Partners -/

/-- The bits in which a device's number differs from its partner's, round by round. -/
def mask : ℕ → ℕ
  | 0 => 1
  | 1 => 3
  | _ => 4

set_option backward.proofsInPublic true in
/-- The partner of device `c` in round `r`. -/
def par (r : ℕ) (c : Dev nD) : Dev nD := ⟨(c.val ^^^ mask r) % 8, Nat.mod_lt _ (by decide)⟩

theorem par_par : ∀ (r : ℕ) (c : Dev nD), par r (par r c) = c
  | 0, c => by revert c; decide
  | 1, c => by revert c; decide
  | n + 2, c => by show par 2 (par 2 c) = c; revert c; decide

/-! ## The transfers -/

/-- The numerator slots: round, batch, half of the heads. -/
abbrev NI : Type := Fin 3 × Fin 2 × Fin 2
/-- The denominator slots: round, batch. -/
abbrev DI : Type := Fin 3 × Fin 2
/-- All transfers of one device. -/
abbrev KI : Type := NI ⊕ DI

/-- The round of a transfer. -/
def rd : KI → Fin 3
  | .inl t => t.1
  | .inr t => t.1

/-- The shape of a transfer's slot, -/
abbrev shp : KI → Shape
  | .inl _ => S1x1x1x256x128
  | .inr _ => S1x1x8x1024
/-- the shape its copy names it by, -/
abbrev sqs : KI → Shape
  | .inl _ => S256x128
  | .inr _ => S8x1024
/-- and its element type. -/
abbrev elt : KI → EltTy
  | .inl _ => .bf16
  | .inr _ => .f32

theorem sq_ok : ∀ k : KI, (shp k).Squeezes (sqs k)
  | .inl _ => squeezes_S1x1x1x256x128_S256x128
  | .inr _ => squeezes_S1x1x8x1024_S8x1024

abbrev snM : Memref sig .tc .vmem S3x2x2x256x128 .bf16 := Memref.whole cc0_scratch0
abbrev rnM : Memref sig .tc .vmem S3x2x2x256x128 .bf16 := Memref.whole cc0_scratch1
abbrev sdM : Memref sig .tc .vmem S3x2x8x1024 .f32 := Memref.whole cc0_scratch2
abbrev rdM : Memref sig .tc .vmem S3x2x8x1024 .f32 := Memref.whole cc0_scratch3

theorem nR_inb (t : NI) : ∀ a, (![(t.1 : ℕ), t.2.1, t.2.2, 0, 0] : Fin 5 → ℕ) a + S1x1x1x256x128.size a ≤ S3x2x2x256x128.size a := by
  revert t; decide
theorem dR_inb (t : DI) : ∀ a, (![(t.1 : ℕ), t.2, 0, 0] : Fin 4 → ℕ) a + S1x1x8x1024.size a ≤ S3x2x8x1024.size a := by
  revert t; decide

/-- The rectangle of a numerator slot, -/
abbrev nR (t : NI) : Rect S3x2x2x256x128 :=
  Rect.unit (s := S3x2x2x256x128) ![(t.1 : ℕ), t.2.1, t.2.2, 0, 0] S1x1x1x256x128.size (nR_inb t)
/-- of a denominator slot. -/
abbrev dR (t : DI) : Rect S3x2x8x1024 :=
  Rect.unit (s := S3x2x8x1024) ![(t.1 : ℕ), t.2, 0, 0] S1x1x8x1024.size (dR_inb t)

abbrev nS (M : Memref sig .tc .vmem S3x2x2x256x128 .bf16) (t : NI) : Memref sig .tc .vmem S1x1x1x256x128 .bf16 :=
  M.slice (nR t) (fun _ => rfl)
abbrev dS (M : Memref sig .tc .vmem S3x2x8x1024 .f32) (t : DI) : Memref sig .tc .vmem S1x1x8x1024 .f32 :=
  M.slice (dR t) (fun _ => rfl)

/-- The slot a transfer is read from, -/
abbrev sM : (k : KI) → Memref sig .tc .vmem (shp k) (elt k)
  | .inl t => nS snM t
  | .inr t => dS sdM t
/-- and the slot it lands in. -/
abbrev vM : (k : KI) → Memref sig .tc .vmem (shp k) (elt k)
  | .inl t => nS rnM t
  | .inr t => dS rdM t

/-! ## The staged inputs and the blocks read from them -/

abbrev xM : Memref sig .tc .vmem S2x256x512 .bf16 := Memref.whole cc0_stg0_0
abbrev wqM : Memref sig .tc .vmem S512x256 .bf16 := Memref.whole cc0_stg1_0
abbrev kM : Memref sig .tc .vmem S2x256x4x64 .bf16 := Memref.whole cc0_stg2_0
abbrev vvM : Memref sig .tc .vmem S2x256x4x64 .bf16 := Memref.whole cc0_stg3_0
abbrev woM : Memref sig .tc .vmem S256x512 .bf16 := Memref.whole cc0_stg4_0
abbrev oM : Memref sig .tc .vmem S2x256x512 .f32 := Memref.whole cc0_stg5_0

def stg0 (c : Dev nD) : (cc0_stg0_0 : Ref sig .tc).ty.Contents (Elt F) :=
  (win0_0.blk (0 : Fin 1)).view.read (Elt F) ((s₀ m ρ).mem ((c : Thread nD τ).loc main_arg0))
def stg1 (c : Dev nD) : (cc0_stg1_0 : Ref sig .tc).ty.Contents (Elt F) :=
  (win0_1.blk (0 : Fin 1)).view.read (Elt F) ((s₀ m ρ).mem ((c : Thread nD τ).loc main_arg1))
def stg2 (c : Dev nD) : (cc0_stg2_0 : Ref sig .tc).ty.Contents (Elt F) :=
  (win0_2.blk (0 : Fin 1)).view.read (Elt F) ((s₀ m ρ).mem ((c : Thread nD τ).loc main_arg2))
def stg3 (c : Dev nD) : (cc0_stg3_0 : Ref sig .tc).ty.Contents (Elt F) :=
  (win0_3.blk (0 : Fin 1)).view.read (Elt F) ((s₀ m ρ).mem ((c : Thread nD τ).loc main_arg3))
def stg4 (c : Dev nD) : (cc0_stg4_0 : Ref sig .tc).ty.Contents (Elt F) :=
  (win0_4.blk (0 : Fin 1)).view.read (Elt F) ((s₀ m ρ).mem ((c : Thread nD τ).loc main_arg4))

theorem xR_inb (b : Fin 2) : ∀ a, (![(b : ℕ), 0, 0] : Fin 3 → ℕ) a + S1x256x512.size a ≤ S2x256x512.size a := by
  revert b; decide
theorem kR_inb (b : Fin 2) : ∀ a, (![(b : ℕ), 0, 0, 0] : Fin 4 → ℕ) a + S1x256x4x64.size a ≤ S2x256x4x64.size a := by
  revert b; decide
abbrev xR (b : Fin 2) : Rect S2x256x512 := Rect.unit (s := S2x256x512) ![(b : ℕ), 0, 0] S1x256x512.size (xR_inb b)
abbrev kR (b : Fin 2) : Rect S2x256x4x64 := Rect.unit (s := S2x256x4x64) ![(b : ℕ), 0, 0, 0] S1x256x4x64.size (kR_inb b)
abbrev wqR : Rect S512x256 := Rect.unit (s := S512x256) ![0, 0] S512x256.size (by decide)
abbrev woR : Rect S256x512 := Rect.unit (s := S256x512) ![0, 0] S256x512.size (by decide)

def ldx (b : Fin 2) (c : Dev nD) : Vec F S1x256x512 .bf16 := xM.view.readAt (Elt F) (xR b).toLoadRect (stg0 m ρ c)
def ldwq (c : Dev nD) : Vec F S512x256 .bf16 := wqM.view.readAt (Elt F) wqR.toLoadRect (stg1 m ρ c)
def ldk (b : Fin 2) (c : Dev nD) : Vec F S1x256x4x64 .bf16 := kM.view.readAt (Elt F) (kR b).toLoadRect (stg2 m ρ c)
def ldv (b : Fin 2) (c : Dev nD) : Vec F S1x256x4x64 .bf16 := vvM.view.readAt (Elt F) (kR b).toLoadRect (stg3 m ρ c)
def ldwo (c : Dev nD) : Vec F S256x512 .bf16 := woM.view.readAt (Elt F) woR.toLoadRect (stg4 m ρ c)

/-! ## The partial sums -/

/-- The mask of scores device `c` keeps, and its query weights. -/
def mk (c : Dev nD) : IVec S256x256 1 := k0_pay1 c
def wq (c : Dev nD) : FVec F S512x256 .bf16 := k0_pay2 (ldwq m ρ c)
def on8 : FVec F S8x256 .bf16 := k0_pay3

/-- One head's partial numerators. -/
def numH (c : Dev nD) : Fin 2 → Fin 4 → FVec F S1x1x1x256x64 .bf16
  | 0, 0 => k0_pay6 (mk c) (wq m ρ c) (ldx m ρ 0 c) (ldk m ρ 0 c) (ldv m ρ 0 c)
  | 0, 1 => k0_pay10 (mk c) (k0_pay8 (wq m ρ c) (ldx m ρ 0 c)) (ldk m ρ 0 c) (ldv m ρ 0 c)
  | 0, 2 => k0_pay13 (mk c) (k0_pay4 (wq m ρ c) (ldx m ρ 0 c)) (ldk m ρ 0 c) (ldv m ρ 0 c)
  | 0, 3 => k0_pay17 (mk c) (k0_pay4 (wq m ρ c) (ldx m ρ 0 c)) (ldk m ρ 0 c) (ldv m ρ 0 c)
  | 1, 0 => k0_pay22 (mk c) (k0_pay20 (wq m ρ c) (ldx m ρ 1 c)) (ldk m ρ 1 c) (ldv m ρ 1 c)
  | 1, 1 => k0_pay27 (mk c) (k0_pay24 (k0_pay19 (wq m ρ c) (ldx m ρ 1 c)) (ldk m ρ 1 c)) k0_pay25 (ldv m ρ 1 c)
  | 1, 2 => k0_pay30 (mk c) (k0_pay19 (wq m ρ c) (ldx m ρ 1 c)) (ldk m ρ 1 c) (ldv m ρ 1 c)
  | 1, 3 => k0_pay34 (mk c) (k0_pay32 (k0_pay19 (wq m ρ c) (ldx m ρ 1 c))) (ldk m ρ 1 c) (ldv m ρ 1 c)

/-- One head's partial denominators. -/
def denH (c : Dev nD) : Fin 2 → Fin 4 → FVec F S1x1x8x256 .f32
  | 0, 0 => k0_pay7 (mk c) (wq m ρ c) on8 (ldx m ρ 0 c) (ldk m ρ 0 c)
  | 0, 1 => k0_pay11 (mk c) on8 (k0_pay8 (wq m ρ c) (ldx m ρ 0 c)) (ldk m ρ 0 c)
  | 0, 2 => k0_pay15 (k0_pay14 (mk c) on8 (k0_pay4 (wq m ρ c) (ldx m ρ 0 c)) (ldk m ρ 0 c))
  | 0, 3 => k0_pay18 (mk c) on8 (k0_pay4 (wq m ρ c) (ldx m ρ 0 c)) (ldk m ρ 0 c)
  | 1, 0 => k0_pay23 (mk c) on8 (k0_pay20 (wq m ρ c) (ldx m ρ 1 c)) (ldk m ρ 1 c)
  | 1, 1 => k0_pay28 (mk c) on8 (k0_pay24 (k0_pay19 (wq m ρ c) (ldx m ρ 1 c)) (ldk m ρ 1 c)) k0_pay25
  | 1, 2 => k0_pay31 (mk c) on8 (k0_pay19 (wq m ρ c) (ldx m ρ 1 c)) (ldk m ρ 1 c)
  | 1, 3 => k0_pay35 (mk c) on8 (k0_pay32 (k0_pay19 (wq m ρ c) (ldx m ρ 1 c))) (ldk m ρ 1 c)

/-- The columns of a numerator slot that its `h`th head fills, -/
abbrev nP (h : Fin 2) : Rect S1x1x1x256x128 :=
  Rect.unit (s := S1x1x1x256x128) ![0, 0, 0, 0, 64 * (h : ℕ)] S1x1x1x256x64.size (by revert h; decide)
/-- and of a denominator slot. -/
abbrev dP (h : Fin 4) : Rect S1x1x8x1024 :=
  Rect.unit (s := S1x1x8x1024) ![0, 0, 0, 256 * (h : ℕ)] S1x1x8x256.size (by revert h; decide)

/-- The two heads of a half side by side, over any earlier contents `X`. -/
def fillN (c : Dev nD) (b hp : Fin 2) (X : FVec F S1x1x1x256x128 .bf16) : FVec F S1x1x1x256x128 .bf16 :=
  (nP 1).overlay ((nP 0).overlay X (numH m ρ c b ⟨2 * hp, by omega⟩)) (numH m ρ c b ⟨2 * hp + 1, by omega⟩)
/-- The four heads side by side, over any earlier contents `X`. -/
def fillD (c : Dev nD) (b : Fin 2) (X : FVec F S1x1x8x1024 .f32) : FVec F S1x1x8x1024 .f32 :=
  (dP 3).overlay ((dP 2).overlay ((dP 1).overlay ((dP 0).overlay X (denH m ρ c b 0)) (denH m ρ c b 1)) (denH m ρ c b 2)) (denH m ρ c b 3)

/-! ## The sums after each round -/

/-- Device `c`'s numerators going into round `r`. -/
def NX : ℕ → Fin 2 → Fin 2 → Dev nD → FVec F S1x1x1x256x128 .bf16
  | 0, b, hp, c => fillN m ρ c b hp (fun _ => Scalar.ofBits .bf16 0)
  | r + 1, b, hp, c => k0_pay36 (NX r b hp c) (NX r b hp (par r c))
/-- Device `c`'s denominators going into round `r`. -/
def DX : ℕ → Fin 2 → Dev nD → FVec F S1x1x8x1024 .f32
  | 0, b, c => fillD m ρ c b (fun _ => Scalar.ofBits .f32 0)
  | r + 1, b, c => k0_pay42 (DX r b c) (DX r b (par r c))

/-- What transfer `k` of device `c` carries. -/
abbrev CT (c : Dev nD) : (k : KI) → (shp k).Idx → Elt F (elt k)
  | .inl t => NX m ρ t.1 t.2.1 t.2.2 c
  | .inr t => DX m ρ t.1 t.2 c

/-! ## The result -/

/-- The first batch of the output, -/
def o0 (c : Dev nD) : FVec F S1x256x512 .f32 :=
  k0_pay56 (k0_pay51 (ldwo m ρ c)) (k0_pay52 (DX m ρ 2 0 c) (DX m ρ 2 0 (par 2 c)))
    (k0_pay54 (k0_pay52 (DX m ρ 2 0 c) (DX m ρ 2 0 (par 2 c))) (NX m ρ 2 0 0 c) (NX m ρ 2 0 0 (par 2 c)))
    (k0_pay55 (k0_pay52 (DX m ρ 2 0 c) (DX m ρ 2 0 (par 2 c))) (NX m ρ 2 0 0 c) (NX m ρ 2 0 0 (par 2 c)))
    (NX m ρ 2 0 1 c) (NX m ρ 2 0 1 (par 2 c))
/-- and the second. -/
def o1 (c : Dev nD) : FVec F S1x256x512 .f32 :=
  k0_pay63 (k0_pay51 (ldwo m ρ c)) (k0_pay57 (DX m ρ 2 1 c) (DX m ρ 2 1 (par 2 c)))
    (k0_pay60 (k0_pay57 (DX m ρ 2 1 c) (DX m ρ 2 1 (par 2 c))) (k0_pay58 (NX m ρ 2 1 0 c)) (NX m ρ 2 1 0 (par 2 c)))
    (k0_pay61 (k0_pay57 (DX m ρ 2 1 c) (DX m ρ 2 1 (par 2 c))) (k0_pay58 (NX m ρ 2 1 0 c)) (NX m ρ 2 1 0 (par 2 c)))
    (k0_pay62 (NX m ρ 2 1 1 c)) (NX m ρ 2 1 1 (par 2 c))

/-- The whole output block over any earlier contents `X`. -/
def fillO (c : Dev nD) (X : FVec F S2x256x512 .f32) : FVec F S2x256x512 .f32 :=
  (xR 1).overlay ((xR 0).overlay X (o0 m ρ c)) (o1 m ρ c)
def outAt (c : Dev nD) : FVec F S2x256x512 .f32 := fillO m ρ c (fun _ => Scalar.ofBits .f32 0)

/-! ## Filled slots do not depend on what was there -/

theorem overlay_congr {sh : Shape} {α : Type} (r : Rect sh) {X Y : sh.Idx → α} (G : r.shape.Idx → α) (j : sh.Idx)
    (h : j ∉ r.set → X j = Y j) : r.overlay X G j = r.overlay Y G j := by
  by_cases hj : j ∈ r.set
  · obtain ⟨x, rfl⟩ : ∃ x, r.emb x = j := r.exists_idx_of_mem hj
    rw [Rect.overlay_emb, Rect.overlay_emb]
  · rw [Rect.overlay_of_not_mem _ _ _ hj, Rect.overlay_of_not_mem _ _ _ hj, h hj]

theorem fillN_eq (c : Dev nD) (b hp : Fin 2) (X Y : FVec F S1x1x1x256x128 .bf16) : fillN m ρ c b hp X = fillN m ρ c b hp Y := by
  funext j
  unfold fillN
  refine overlay_congr _ _ _ fun h1 => overlay_congr _ _ _ fun h0 => absurd ?_ h1
  have h4 : (j 4 : ℕ) < 128 := (j 4).isLt
  rw [Rect.mem_set_unit] at h0 ⊢
  intro a
  by_contra hc
  apply h0
  intro a'
  have h := (j a').isLt
  fin_cases a <;> fin_cases a' <;> simp_all [S1x1x1x256x64, S1x1x1x256x128] <;> omega

theorem mem_dP (h : Fin 4) (j : S1x1x8x1024.Idx) : j ∈ (dP h).set ↔ 256 * (h : ℕ) ≤ j 3 ∧ (j 3 : ℕ) < 256 * h + 256 := by
  rw [Rect.mem_set_unit]
  constructor
  · intro H; exact H 3
  · intro H a
    have ha := (j a).isLt
    fin_cases a <;> simp_all [S1x1x8x256, S1x1x8x1024]

theorem fillD_eq (c : Dev nD) (b : Fin 2) (X Y : FVec F S1x1x8x1024 .f32) : fillD m ρ c b X = fillD m ρ c b Y := by
  funext j
  unfold fillD
  refine overlay_congr _ _ _ fun h3 => overlay_congr _ _ _ fun h2 => overlay_congr _ _ _ fun h1 => overlay_congr _ _ _ fun h0 => absurd ?_ h3
  have h4 : (j 3 : ℕ) < 1024 := (j 3).isLt
  rw [mem_dP] at *
  simp at h0 h1 h2 h3 ⊢
  omega

theorem mem_xR (b : Fin 2) (j : S2x256x512.Idx) : j ∈ (xR b).set ↔ (j 0 : ℕ) = b := by
  rw [Rect.mem_set_unit]
  constructor
  · intro H
    have := H 0
    simp [S1x256x512] at this
    omega
  · intro H a
    have ha := (j a).isLt
    fin_cases a <;> simp_all [S1x256x512, S2x256x512]

theorem fillO_eq (c : Dev nD) (X Y : FVec F S2x256x512 .f32) : fillO m ρ c X = fillO m ρ c Y := by
  funext j
  unfold fillO
  refine overlay_congr _ _ _ fun h1 => overlay_congr _ _ _ fun h0 => absurd ?_ h1
  have h4 : (j 0 : ℕ) < 2 := (j 0).isLt
  rw [mem_xR] at *
  simp at h0 h1 ⊢
  omega

end Cert.KernelIdeal.Hyper
-- ==== Proof.KernelIdeal.Proto.lean ====
/-
# The exchange protocol

Per device: a barrier cell and a closing-barrier cell (three duties each, paid by the three
partners), and for each transfer a send cell and a receive cell with one duty each. The first
barrier's duties carry the partner's receive slots; a send duty returns half of the slot read, a
receive duty brings the slot written, at the partner's contents.
-/
module

public import proofs.«01_k».proof.Proof.KernelIdeal.Data

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev 𝒱₀ : Variants := Variants.none

/-! ## Cells -/

/-- The barrier and the closing barrier. -/
abbrev barS : Sem sig := (0 : Fin 2)
abbrev finS : Sem sig := (1 : Fin 2)

/-- A transfer's send semaphore, -/
def sS : KI → DmaSem sig
  | .inl t => ⟨6 + (4 * t.1 + 2 * t.2.1 + t.2.2), by obtain ⟨a, b, c⟩ := t; show _ < 42; omega⟩
  | .inr t => ⟨30 + (2 * t.1 + t.2), by obtain ⟨a, b⟩ := t; show _ < 42; omega⟩
/-- and its receive semaphore. -/
def vS : KI → DmaSem sig
  | .inl t => ⟨18 + (4 * t.1 + 2 * t.2.1 + t.2.2), by obtain ⟨a, b, c⟩ := t; show _ < 42; omega⟩
  | .inr t => ⟨36 + (2 * t.1 + t.2), by obtain ⟨a, b⟩ := t; show _ < 42; omega⟩

/-- Send and receive semaphores together. -/
def xS : KI ⊕ KI → DmaSem sig
  | .inl k => sS k
  | .inr k => vS k

/-- A code of an index by a small number. -/
def kcode : KI → ℕ
  | .inl t => 4 * t.1 + 2 * t.2.1 + t.2.2
  | .inr t => 12 + (2 * t.1 + t.2)

theorem kcode_inj : Function.Injective kcode := by
  intro k k' h
  rcases k with ⟨a, b, c⟩ | ⟨a, b⟩ <;> rcases k' with ⟨a', b', c'⟩ | ⟨a', b'⟩ <;> simp only [kcode] at h
  · have h1 : a = a' := Fin.ext (by omega)
    have h2 : b = b' := Fin.ext (by omega)
    have h3 : c = c' := Fin.ext (by omega)
    rw [h1, h2, h3]
  · omega
  · omega
  · have h1 : a = a' := Fin.ext (by omega)
    have h2 : b = b' := Fin.ext (by omega)
    rw [h1, h2]

theorem xS_inj : Function.Injective xS := by
  intro k k' h
  have hv : (xS k).val = (xS k').val := congrArg Fin.val h
  rcases k with k | k <;> rcases k' with k' | k'
  · have : kcode k = kcode k' := by
      rcases k with ⟨a, b, c⟩ | ⟨a, b⟩ <;> rcases k' with ⟨a', b', c'⟩ | ⟨a', b'⟩ <;> simp only [kcode, xS, sS] at * <;> omega
    rw [kcode_inj this]
  · rcases k with ⟨a, b, c⟩ | ⟨a, b⟩ <;> rcases k' with ⟨a', b', c'⟩ | ⟨a', b'⟩ <;> simp only [xS, sS, vS] at hv <;> omega
  · rcases k with ⟨a, b, c⟩ | ⟨a, b⟩ <;> rcases k' with ⟨a', b', c'⟩ | ⟨a', b'⟩ <;> simp only [xS, sS, vS] at hv <;> omega
  · have : kcode k = kcode k' := by
      rcases k with ⟨a, b, c⟩ | ⟨a, b⟩ <;> rcases k' with ⟨a', b', c'⟩ | ⟨a', b'⟩ <;> simp only [kcode, xS, vS] at * <;> omega
    rw [kcode_inj this]

/-- The cells of one device: the two barriers, the send and the receive cells. -/
abbrev CK : Type := Fin 2 ⊕ (KI ⊕ KI)

instance : DecidableEq (KI ⊕ KI) := fun a b => instDecidableEqSum a b
instance : DecidableEq CK := fun a b => instDecidableEqSum a b

def cs : CK → SemLoc sig
  | .inl b => .reg (b : Sem sig)
  | .inr k => .dma (xS k)

theorem cs_inj : Function.Injective cs := by
  intro k k' h
  rcases k with k | k <;> rcases k' with k' | k' <;> simp only [cs] at h
  · injection h with h; rw [h]
  · cases h
  · cases h
  · injection h with h; rw [xS_inj h]

def kcell (x : Dev nD × CK) : GSem nD τ sig := ((x.1 : Thread nD τ), cs x.2)

abbrev barCell (c : Dev nD) : GSem nD τ sig := ((c : Thread nD τ), .reg barS)
abbrev finCell (c : Dev nD) : GSem nD τ sig := ((c : Thread nD τ), .reg finS)
abbrev sCell (c : Dev nD) (k : KI) : GSem nD τ sig := ((c : Thread nD τ), .dma (sS k))
abbrev vCell (c : Dev nD) (k : KI) : GSem nD τ sig := ((c : Thread nD τ), .dma (vS k))

/-! ## Amounts -/

/-- What one transfer of a numerator slot raises its semaphores by, -/
def NN : ℕ := ((nS rnM (0, 0, 0)).squeeze S256x128 squeezes_S1x1x1x256x128_S256x128).view.dmaCredit
/-- and one of a denominator slot. -/
def ND : ℕ := ((dS rdM (0, 0)).squeeze S8x1024 squeezes_S1x1x8x1024_S8x1024).view.dmaCredit

def amt : SemLoc sig → ℕ
  | .reg _ => 1
  | .dma q => if q.val < 30 then NN else ND

/-- The amount of a transfer. -/
def amtK : KI → ℕ
  | .inl _ => NN
  | .inr _ => ND

theorem NN_pos : 0 < NN := View.dmaCredit_pos _ (by decide)
theorem ND_pos : 0 < ND := View.dmaCredit_pos _ (by decide)

theorem amt_pos (s : SemLoc sig) : 0 < amt s := by
  unfold amt
  split
  · exact Nat.one_pos
  · split
    · exact NN_pos
    · exact ND_pos

/-! ## The schedule -/

/-- A receive slot of device `c`, at any contents. -/
def slotAny (c : Dev nD) (k : KI) : sProp 𝕄 := iprop(∃ Y, owns (c : Thread nD τ) (vM k) fullShare Y)

/-- The receive slots of device `c` for round `r`. -/
def recvSlots (r : Fin 3) (c : Dev nD) : sProp 𝕄 :=
  iprop((bigSep Finset.univ fun p : Fin 2 × Fin 2 => slotAny (F := F) c (.inl (r, p))) ∗ bigSep Finset.univ fun b : Fin 2 => slotAny (F := F) c (.inr (r, b)))

def sendPay (c : Dev nD) (k : KI) : sProp 𝕄 := owns (c : Thread nD τ) (sM k) fullShare.left (CT m ρ c k)
def recvPay (c : Dev nD) (k : KI) : sProp 𝕄 := owns (c : Thread nD τ) (vM k) fullShare (CT m ρ (par (rd k) c) k)

instance slotAny_storable (c : Dev nD) (k : KI) : BI.Storable (upEmb : UEmb _ 𝕄) (slotAny (F := F) c k) := by unfold slotAny; infer_instance
instance recvSlots_storable (r : Fin 3) (c : Dev nD) : BI.Storable (upEmb : UEmb _ 𝕄) (recvSlots (F := F) r c) := by unfold recvSlots; infer_instance
instance sendPay_storable (c : Dev nD) (k : KI) : BI.Storable (upEmb : UEmb _ 𝕄) (sendPay m ρ c k) := by unfold sendPay; infer_instance
instance recvPay_storable (c : Dev nD) (k : KI) : BI.Storable (upEmb : UEmb _ 𝕄) (recvPay m ρ c k) := by unfold recvPay; infer_instance

/-- What a transfer cell's duty carries. -/
def dmaPay (c : Dev nD) : Option (KI ⊕ KI) → sProp 𝕄
  | some (.inl k) => sendPay m ρ c k
  | some (.inr k) => recvPay m ρ c k
  | none => iprop(emp)

/-- What a cell's duty carries. -/
def payAt (c : Dev nD) (d : Fin 3) : SemLoc sig → sProp 𝕄
  | .reg s => if s = barS then recvSlots (F := F) d (par d c) else iprop(emp)
  | .dma q => dmaPay m ρ c (Function.partialInv xS q)

/-- The duties of a cell's only round. -/
def dutiesAt : SemLoc sig → Finset (Fin 3)
  | .reg _ => Finset.univ
  | .dma _ => {0}

def Rd : Rounds.Schedule (GSem nD τ sig) (Fin 3) 𝕄 where
  duties g r := if r = 0 then dutiesAt g.2 else ∅
  unitless _ := False
  amount g _ _ := amt g.2
  payload g _ d := payAt m ρ g.1.1 d g.2
  amount_pos g _ _ _ := amt_pos g.2

instance Rd_storable (g : GSem nD τ sig) (r : ℕ) (d : Fin 3) : BI.Storable (upEmb : UEmb _ 𝕄) ((Rd m ρ).payload g r d) := by
  show BI.Storable upEmb (payAt m ρ g.1.1 d g.2)
  unfold payAt
  split
  · split <;> infer_instance
  · unfold dmaPay; split <;> infer_instance

theorem duties_reg (c : Dev nD) (s : Sem sig) : (Rd m ρ).duties ((c : Thread nD τ), .reg s) 0 = Finset.univ := by
  dsimp only [Rd, dutiesAt]; exact if_pos rfl
theorem duties_dma (c : Dev nD) (q : DmaSem sig) : (Rd m ρ).duties ((c : Thread nD τ), .dma q) 0 = {0} := by
  dsimp only [Rd, dutiesAt]; exact if_pos rfl
theorem duties_later (g : GSem nD τ sig) : ∀ r, 1 ≤ r → (Rd m ρ).duties g r = ∅ :=
  fun r hr => by dsimp only [Rd]; exact if_neg (by omega)

theorem amt_sS (k : KI) : amt (.dma (sS k)) = amtK k := by
  rcases k with ⟨a, b, c⟩ | ⟨a, b⟩ <;> dsimp only [amt, sS, amtK]
  · exact if_pos (by omega)
  · exact if_neg (by omega)
theorem amt_vS (k : KI) : amt (.dma (vS k)) = amtK k := by
  rcases k with ⟨a, b, c⟩ | ⟨a, b⟩ <;> dsimp only [amt, vS, amtK]
  · exact if_pos (by omega)
  · exact if_neg (by omega)

theorem amount_s (c : Dev nD) (k : KI) (d : Fin 3) : (Rd m ρ).amount (sCell c k) 0 d = amtK k := amt_sS k
theorem amount_v (c : Dev nD) (k : KI) (d : Fin 3) : (Rd m ρ).amount (vCell c k) 0 d = amtK k := amt_vS k
theorem amount_reg (c : Dev nD) (s : Sem sig) (d : Fin 3) : (Rd m ρ).amount ((c : Thread nD τ), .reg s) 0 d = 1 := rfl

theorem expect_reg (c : Dev nD) (s : Sem sig) : (Rd m ρ).expect ((c : Thread nD τ), .reg s) 0 = 3 := by
  unfold Schedule.expect Schedule.amountOf
  rw [duties_reg, Finset.sum_congr rfl fun d _ => amount_reg m ρ c s d, Finset.sum_const, Finset.card_univ, Fintype.card_fin, smul_eq_mul]
theorem expect_s (c : Dev nD) (k : KI) : (Rd m ρ).expect (sCell c k) 0 = amtK k := by
  unfold Schedule.expect Schedule.amountOf; rw [duties_dma, Finset.sum_singleton, amount_s]
theorem expect_v (c : Dev nD) (k : KI) : (Rd m ρ).expect (vCell c k) 0 = amtK k := by
  unfold Schedule.expect Schedule.amountOf; rw [duties_dma, Finset.sum_singleton, amount_v]

theorem payload_s (c : Dev nD) (k : KI) : (Rd m ρ).payload (sCell c k) 0 0 = sendPay m ρ c k := by
  show dmaPay m ρ c (Function.partialInv xS (xS (.inl k))) = _
  rw [Function.partialInv_left xS_inj]; rfl
theorem payload_v (c : Dev nD) (k : KI) : (Rd m ρ).payload (vCell c k) 0 0 = recvPay m ρ c k := by
  show dmaPay m ρ c (Function.partialInv xS (xS (.inr k))) = _
  rw [Function.partialInv_left xS_inj]; rfl
theorem payload_bar (c : Dev nD) (d : Fin 3) : (Rd m ρ).payload (barCell c) 0 d = recvSlots (F := F) d (par d c) := by
  dsimp only [Rd, payAt]; exact if_pos rfl
theorem payload_fin (c : Dev nD) (d : Fin 3) : (Rd m ρ).payload (finCell c) 0 d = (iprop(emp) : sProp 𝕄) := by
  dsimp only [Rd, payAt]; exact if_neg (by decide)

/-! ## What a device owes -/

/-- The cells a device credits on other devices, each with the round of the partner it lies on, in the
    order the program credits them. -/
def owedL : List (SemLoc sig × Fin 3) :=
  [(.reg barS, 0), (.reg barS, 1), (.reg barS, 2),
   (.dma (vS (.inl (0, 0, 0))), 0), (.dma (vS (.inl (0, 0, 1))), 0), (.dma (vS (.inr (0, 0))), 0),
   (.dma (vS (.inl (0, 1, 0))), 0), (.dma (vS (.inl (0, 1, 1))), 0), (.dma (vS (.inr (0, 1))), 0),
   (.dma (vS (.inl (1, 0, 0))), 1), (.dma (vS (.inl (1, 0, 1))), 1), (.dma (vS (.inr (1, 0))), 1),
   (.dma (vS (.inl (1, 1, 0))), 1), (.dma (vS (.inl (1, 1, 1))), 1), (.dma (vS (.inr (1, 1))), 1),
   (.dma (vS (.inl (2, 0, 0))), 2), (.dma (vS (.inl (2, 0, 1))), 2), (.dma (vS (.inr (2, 0))), 2),
   (.dma (vS (.inl (2, 1, 0))), 2), (.dma (vS (.inl (2, 1, 1))), 2), (.dma (vS (.inr (2, 1))), 2),
   (.reg finS, 0), (.reg finS, 1), (.reg finS, 2)]

/-- One credit. -/
def owed1 (c : Dev nD) (p : SemLoc sig × Fin 3) : CellTallies nD τ sig Unit := tallyAt ((par p.2 c : Thread nD τ), p.1) () (amt p.1)

def owes' (c : Dev nD) : List (SemLoc sig × Fin 3) → CellTallies nD τ sig Unit
  | [] => 0
  | p :: l => owes' c l + owed1 c p

/-- What device `c` still owes after its first `n` credits. -/
def owe (c : Dev nD) (n : ℕ) : CellTallies nD τ sig Unit := owes' c (owedL.drop n)

theorem owe_succ (c : Dev nD) {n : ℕ} {p : SemLoc sig × Fin 3} (h : owedL.drop n = p :: owedL.drop (n + 1)) :
    owe c n = owe c (n + 1) + owed1 c p := by unfold owe; rw [h]; rfl

theorem owes'_pos {c : Dev nD} {g : GSem nD τ sig} {u : Unit} : ∀ l, 0 < owes' c l g u → ∃ p ∈ l, g = ((par p.2 c : Thread nD τ), p.1)
  | [], h => absurd h (by simp [owes'])
  | p :: l, h => by
    by_cases hg : g = ((par p.2 c : Thread nD τ), p.1)
    · exact ⟨p, List.mem_cons_self, hg⟩
    · have h' : 0 < owes' c l g u := by
        have : owed1 c p g u = 0 := by unfold owed1; rw [tallyAt_ne_cell hg]; rfl
        simp only [owes', Pi.add_apply, Finsupp.add_apply, this, Nat.add_zero] at h
        exact h
      obtain ⟨q, hq, e⟩ := owes'_pos l h'
      exact ⟨q, List.mem_cons_of_mem _ hq, e⟩

/-! ## Levels -/

def L (g : GSem nD τ sig) : Finset Unit := if g.1.2 = .tc then {()} else ∅
def lvS : SemLoc sig → ℕ
  | .reg s => if s = barS then 1 else 5
  | .dma q => if q.val < 18 then 0 else if q.val < 30 then 2 + (q.val - 18) / 4 else if q.val < 36 then 0 else 2 + (q.val - 36) / 2
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A wait is allowed while only cells of higher levels are owed. -/
theorem mayWait (c : Dev nD) (sm : SemLoc sig) (n : ℕ) (h : ∀ p ∈ owedL.drop n, lvS sm < lvS p.1) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by obtain ⟨p, hp, rfl⟩ := owes'_pos _ hg; rw [L_tc]; exact Finset.mem_singleton_self _)
    (fun p hp => by rw [Finset.mem_singleton.mp hp]; exact le_refl _)
    (fun g u hg => by obtain ⟨p, hp, rfl⟩ := owes'_pos _ hg; exact h p hp)

/-! ## The facts every step may use -/

variable (K : Dev nD × CK → ℕ)

def records : sProp 𝕄 :=
  iprop((bigSep Finset.univ fun ck : Dev nD × CK => cellInv ER (Rd m ρ) (K ck) (kcell ck))
    ∗ bigSep Finset.univ fun ck : Dev nD × CK => reached ER (kcell ck) 0)
instance records_persistent : BI.Persistent (records m ρ K) := by unfold records; infer_instance

def ctx : sProp 𝕄 := iprop(records m ρ K ∗ levAts L lv)
instance ctx_persistent : BI.Persistent (ctx m ρ K) := by unfold ctx; infer_instance

theorem inv_at (ck : Dev nD × CK) : ctx m ρ K ⊢ cellInv ER (Rd m ρ) (K ck) (kcell ck) := by
  unfold ctx records
  iintro ⟨⟨#HI, #HR⟩, #HL⟩
  have h : (bigSep Finset.univ fun ck : Dev nD × CK => (cellInv ER (Rd m ρ) (K ck) (kcell ck) : sProp 𝕄)) ⊢ cellInv ER (Rd m ρ) (K ck) (kcell ck) :=
    bigSep_elim (Finset.mem_univ ck)
  iapply h; iexact HI
theorem reached_at (ck : Dev nD × CK) : ctx m ρ K ⊢ reached ER (kcell ck) 0 := by
  unfold ctx records
  iintro ⟨⟨#HI, #HR⟩, #HL⟩
  have h : (bigSep Finset.univ fun ck : Dev nD × CK => (reached ER (kcell ck) 0 : sProp 𝕄)) ⊢ reached ER (kcell ck) 0 :=
    bigSep_elim (Finset.mem_univ ck)
  iapply h; iexact HR
theorem lev_at : ctx m ρ K ⊢ (levAts L lv : sProp 𝕄) := by
  unfold ctx
  iintro ⟨#HI, #HL⟩
  iexact HL

end Cert.KernelIdeal.Hyper
-- ==== Proof.KernelIdeal.Steps.lean ====
/-
# One rule per kind of step

Starting a transfer, waiting for one, the barrier's signals and waits, and loads and stores of a slot.
-/
module

public import proofs.«01_k».proof.Proof.KernelIdeal.Proto

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ)

/-! ## A device's holdings for one transfer -/

/-- What starting transfer `k` takes, -/
def TS (c : Dev nD) (k : KI) : sProp 𝕄 :=
  iprop(dutyTok ER (sCell c k) 0 0 ∗ dutyTok ER (vCell (par (rd k) c) k) 0 0 ∗ atPos ER (sCell c k) 0 ∅ 0)
/-- what it leaves for the send wait, -/
def SS (c : Dev nD) (k : KI) : sProp 𝕄 := iprop(cred (tallyAt (sCell c k) () (amtK k)) ∗ atPos ER (sCell c k) 0 ∅ 0)
/-- and what that wait leaves. -/
def SD (c : Dev nD) (k : KI) : sProp 𝕄 := atPos ER (sCell c k) (0 + 1) ∅ 0
/-- What the receive wait takes -/
def VV (c : Dev nD) (k : KI) : sProp 𝕄 := iprop(cred (tallyAt (vCell c k) () (amtK k)) ∗ atPos ER (vCell c k) 0 ∅ 0)
/-- and what it leaves. -/
def VD (c : Dev nD) (k : KI) : sProp 𝕄 := atPos ER (vCell c k) (0 + 1) ∅ 0

/-- Owing what is left after the first `n` credits. -/
def OW (c : Dev nD) (n : ℕ) : sProp 𝕄 := iprop(∃ W, owes (c : Thread nD τ) (owe c n) W)

/-- The operands of a transfer: the slots by their short shapes. -/
abbrev sQ (k : KI) : Memref sig .tc .vmem (sqs k) (elt k) := (sM k).squeeze (sqs k) (sq_ok k)
abbrev vQ (k : KI) : Memref sig .tc .vmem (sqs k) (elt k) := (vM k).squeeze (sqs k) (sq_ok k)

theorem vQ_amt : ∀ k : KI, (vQ k).view.dmaCredit = amtK k
  | .inl _ => rfl
  | .inr _ => rfl
theorem sQ_amt : ∀ k : KI, (sQ k).view.dmaCredit = amtK k
  | .inl _ => rfl
  | .inr _ => rfl

/-- What a copy between two slots by their short shapes leaves. -/
theorem copy_read {sh sh' : Shape} {e : EltTy} (a b : Memref sig .tc .vmem sh e) (h : sh.Squeezes sh')
    (fs : a.view.ty.Contents (Elt F)) (fd : b.view.ty.Contents (Elt F)) :
    b.view.read (Elt F) ((b.squeeze sh' h).view.write (Elt F) fd ((a.squeeze sh' h).view.read (Elt F) fs) Finset.univ)
      = a.view.read (Elt F) fs := by
  refine (congrArg (b.view.read (Elt F)) (View.write_reshape_univ b.view h.numel_eq fd _)).trans ?_
  rw [View.read_write_univ]
  funext x
  show a.view.read (Elt F) fs (Shape.reshapeEquiv h.numel_eq ((Shape.reshapeEquiv h.numel_eq).symm x)) = _
  rw [Equiv.apply_symm_apply]

theorem halves (c : Dev nD) {sh : Shape} {e : EltTy} (a : Memref sig .tc .vmem sh e) (X : sh.Idx → Elt F e) :
    (owns (c : Thread nD τ) a fullShare X : sProp 𝕄)
      ⊢ iprop(∃ f, ⌜a.view.read (Elt F) f = X⌝ ∗ (a.view.loc (c : Thread nD τ) ↦[a.view.set]{fullShare.left} f)
          ∗ (a.view.loc (c : Thread nD τ) ↦[a.view.set]{fullShare.right} f)) := by
  unfold owns
  iintro ⟨%f, %hf, H⟩
  ihave H2 := (pointsTo_share (PosShare.mem_left_op_right fullShare)).1 $$ H
  icases H2 with ⟨H1, H2⟩
  iexists f
  isplitr
  · ipureintro; exact hf
  isplitl [H1]
  · iexact H1
  iexact H2

theorem unhalve (c : Dev nD) {sh : Shape} {e : EltTy} (a : Memref sig .tc .vmem sh e) (X : sh.Idx → Elt F e) :
    iprop(owns (c : Thread nD τ) a fullShare.left X ∗ owns (c : Thread nD τ) a fullShare.right X)
      ⊢ (owns (c : Thread nD τ) a fullShare X : sProp 𝕄) := by
  unfold owns
  iintro ⟨⟨%f, %hf, H1⟩, ⟨%g, %hg, H2⟩⟩
  iexists f
  isplitr
  · ipureintro; exact hf
  iapply (pointsTo_share (PosShare.mem_left_op_right fullShare)).2
  isplitl [H1]
  · iexact H1
  · have e : (a.view.loc (c : Thread nD τ) ↦[a.view.set]{fullShare.right} g : sProp 𝕄) = (a.view.loc (c : Thread nD τ) ↦[a.view.set]{fullShare.right} f) :=
      pointsTo_congr fun i hi => by
        obtain ⟨x, -, rfl⟩ := Finset.mem_map.mp hi
        have := congrFun (hg.trans hf.symm) x
        rw [View.read_apply, View.read_apply] at this
        exact (cast_inj _).mp this
    iapply (Entails.of_eq e); iexact H2

/-! ## Transfers -/

section Steps

variable (c : Dev nD)

theorem send_pay (k : KI) (fs : (sM k).view.ty.Contents (Elt F)) (hfs : (sM k).view.read (Elt F) fs = CT m ρ c k) :
    ((sQ k).view.loc (c : Thread nD τ) ↦[(sQ k).view.set]{fullShare.left} fs : sProp 𝕄) ⊢ (Rd m ρ).payload (sCell c k) 0 0 := by
  have hS : (sQ k).view.set = (sM k).view.set := View.set_reshape _ _
  rw [payload_s, sendPay, hS]
  unfold owns
  iintro H
  iexists fs
  isplitr
  · ipureintro; exact hfs
  iexact H

theorem recv_pay (k : KI) (fs : (sM k).view.ty.Contents (Elt F)) (fd : (vM k).view.ty.Contents (Elt F)) (hfs : (sM k).view.read (Elt F) fs = CT m ρ c k) :
    ((vQ k).view.loc (par (rd k) c : Thread nD τ) ↦[(vQ k).view.set]{fullShare} ((vQ k).view.write (Elt F) fd ((sQ k).view.read (Elt F) fs) Finset.univ) : sProp 𝕄)
      ⊢ (Rd m ρ).payload (vCell (par (rd k) c) k) 0 0 := by
  have hD : (vQ k).view.set = (vM k).view.set := View.set_reshape _ _
  rw [payload_v, recvPay, par_par, hD]
  unfold owns
  iintro H
  iexists _
  isplitr
  · ipureintro; exact (copy_read (sM k) (vM k) (sq_ok k) fs fd).trans hfs
  iexact H

theorem wp_start0 (k : KI) {n : ℕ} (hO : owedL.drop n = (.dma (vS k), rd k) :: owedL.drop (n + 1))
    {hsc : (vQ k : Memref sig (par (rd k) c : Thread nD τ).2.kind .vmem (sqs k) (elt k)).view.ref.isScScratch = false}
    {hsrc : (sQ k).view.WordExact} {hdst : (vQ k).view.WordExact}
    {hsem : DmaTarget.Typed .vmem (.dma (vS k)) (.remote (par (rd k) c : Thread nD τ) (vQ k) (.dma (sS k)) hsc)}
    {α : Type} {Q : α → sProp 𝕄} {kt : PUnit → Prog (TpuEff nD τ sig (Elt F) Λ₀ .tc) α} (W : Waits sig Unit)
    (fs : (sM k).view.ty.Contents (Elt F)) (fd : (vM k).view.ty.Contents (Elt F)) (hfs : (sM k).view.read (Elt F) fs = CT m ρ c k) :
    iprop(cellInv ER (Rd m ρ) (K (c, .inr (.inl k))) (sCell c k) ∗ cellInv ER (Rd m ρ) (K (par (rd k) c, .inr (.inr k))) (vCell (par (rd k) c) k)
        ∗ ((sQ k).view.loc (c : Thread nD τ) ↦[(sQ k).view.set]{fullShare.left} fs) ∗ ((vQ k).view.loc (par (rd k) c : Thread nD τ) ↦[(vQ k).view.set]{fullShare} fd)
        ∗ owes (c : Thread nD τ) (owe c n) W
        ∗ dutyTok ER (sCell c k) 0 0 ∗ reached ER (sCell c k) 0 ∗ dutyTok ER (vCell (par (rd k) c) k) 0 0 ∗ reached ER (vCell (par (rd k) c) k) 0)
      ⊢ iprop(((cred (tallyAt (sCell c k) () (amtK k)) ∗ owes (c : Thread nD τ) (owe c (n + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sQ k) (.remote (par (rd k) c : Thread nD τ) (vQ k) (.dma (sS k)) hsc) (.dma (vS k)) hsrc hdst hsem) kt) Q) :=
  Rounds.wp_send_pointsTo 𝒱₀ ER (Rd m ρ) (c : Thread nD τ) none (κ₁ := K (c, .inr (.inl k))) (κ₂ := K (par (rd k) c, .inr (.inr k)))
    (c' := (par (rd k) c : Thread nD τ)) (src := sQ k) (dst := vQ k) (sS := .dma (sS k)) (sem := .dma (vS k)) (hsc := hsc) (hsrc := hsrc) (hdst := hdst) (hsem := hsem)
    (r₁ := 0) (r₂ := 0) (d₁ := 0) (d₂ := 0) (fd := fd)
    (by rw [duties_dma]; exact Finset.mem_singleton_self _) (by rw [duties_dma]; exact Finset.mem_singleton_self _)
    () () (amtK k) (show (vQ k).view.amount (.dma (vS k)) = amtK k from vQ_amt k) (amount_s m ρ c k 0) (amount_v m ρ (par (rd k) c) k 0) (owe c (n + 1))
    (by rw [owe_succ c hO, owed1]; dsimp only; rw [amt_vS]) (W := W)
    (send_pay m ρ c k fs hfs) (recv_pay m ρ c k fs fd hfs)

theorem wp_start (k : KI) {n : ℕ} (hO : owedL.drop n = (.dma (vS k), rd k) :: owedL.drop (n + 1))
    (d : Dev nD) (hd : d = par (rd k) c) {q₁ q₂ : DmaSem sig} (h₁ : q₁ = sS k) (h₂ : q₂ = vS k)
    {src dst : Memref sig .tc .vmem (sqs k) (elt k)} (hs : src = sQ k) (ht : dst = vQ k)
    {hsc : (dst : Memref sig (Dev.tc d : Thread nD τ).2.kind .vmem (sqs k) (elt k)).view.ref.isScScratch = false}
    {hsrc : src.view.WordExact} {hdst : dst.view.WordExact}
    {hsem : DmaTarget.Typed .vmem (.dma q₂) (.remote (Dev.tc d : Thread nD τ) dst (.dma q₁) hsc)}
    {α : Type} {Q : α → sProp 𝕄} {kt : PUnit → Prog (TpuEff nD τ sig (Elt F) Λ₀ .tc) α} :
    iprop(ctx m ρ K ∗ owns (c : Thread nD τ) (sM k) fullShare (CT m ρ c k) ∗ slotAny (F := F) (par (rd k) c) k ∗ TS (F := F) c k ∗ OW (F := F) c n)
      ⊢ iprop(((owns (c : Thread nD τ) (sM k) fullShare.right (CT m ρ c k) ∗ SS (F := F) c k ∗ OW (F := F) c (n + 1))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc d : Thread nD τ) dst (.dma q₁) hsc) (.dma q₂) hsrc hdst hsem) kt) Q) := by
  subst hd h₁ h₂ hs ht
  unfold TS SS OW slotAny
  iintro ⟨#HC, Hs, ⟨%Y, Hd⟩, ⟨Ht1, Ht2, Hat⟩, ⟨%W, HO⟩⟩ Hk
  ihave Hs2 := (halves c (sM k) (CT m ρ c k)) $$ Hs
  icases Hs2 with ⟨%fs, %hfs, HsL, HsR⟩
  unfold owns
  icases Hd with ⟨%fd, %hfd, Hd⟩
  have eS : ((sM k).view.loc (c : Thread nD τ) ↦[(sM k).view.set]{fullShare.left} fs : sProp 𝕄) = ((sQ k).view.loc (c : Thread nD τ) ↦[(sQ k).view.set]{fullShare.left} fs) := by
    rw [show (sQ k).view.set = (sM k).view.set from View.set_reshape _ _]
  have eD : ((vM k).view.loc (par (rd k) c : Thread nD τ) ↦[(vM k).view.set]{fullShare} fd : sProp 𝕄) = ((vQ k).view.loc (par (rd k) c : Thread nD τ) ↦[(vQ k).view.set]{fullShare} fd) := by
    rw [show (vQ k).view.set = (vM k).view.set from View.set_reshape _ _]
  iapply (wp_start0 m ρ K c k hO W fs fd hfs) $$ [HsL Hd HO Ht1 Ht2]
  · isplitr; · iapply (inv_at m ρ K (c, .inr (.inl k))); iexact HC
    isplitr; · iapply (inv_at m ρ K (par (rd k) c, .inr (.inr k))); iexact HC
    isplitl [HsL]; · iapply (Entails.of_eq eS); iexact HsL
    isplitl [Hd]; · iapply (Entails.of_eq eD); iexact Hd
    isplitl [HO]; · iexact HO
    isplitl [Ht1]; · iexact Ht1
    isplitr; · iapply (reached_at m ρ K (c, .inr (.inl k))); iexact HC
    isplitl [Ht2]; · iexact Ht2
    iapply (reached_at m ρ K (par (rd k) c, .inr (.inr k))); iexact HC
  iintro ⟨Hc, HO⟩
  iapply Hk
  isplitl [HsR]
  · iexists fs
    isplitr
    · ipureintro; exact hfs
    iexact HsR
  isplitl [Hc Hat]
  · isplitl [Hc]
    · iexact Hc
    iexact Hat
  iexists W
  iexact HO

theorem wp_recv (k : KI) (n : ℕ) (hm : ∀ p ∈ owedL.drop n, lvS (.dma (vS k)) < lvS p.1)
    {q : DmaSem sig} (hq : q = vS k) {src dst : Memref sig .tc .vmem (sqs k) (elt k)} (hN : dst.view.dmaCredit = amtK k)
    {hsrc : src.view.WordExact} {hdst : dst.view.WordExact} {α : Type} {Q : α → sProp 𝕄} {kt : PUnit → Prog (TpuEff nD τ sig (Elt F) Λ₀ .tc) α} :
    iprop(ctx m ρ K ∗ VV (F := F) c k ∗ OW (F := F) c n)
      ⊢ iprop(((owns (c : Thread nD τ) (vM k) fullShare (CT m ρ (par (rd k) c) k) ∗ VD (F := F) c k ∗ OW (F := F) c n)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold VV VD OW
  iintro ⟨#HC, ⟨Hc, Hat⟩, ⟨%W, HO⟩⟩ Hk
  iapply (Rounds.wp_wait_rest_token 𝒱₀ ER (Rd m ρ) (c : Thread nD τ) none (κ := K (c, .inr (.inr k)))
      (wpE_waitDma2_eq 𝒱₀ (c : Thread nD τ) none Set.univ) (Set.mem_univ _) () (O := owe c n) (W := W) (R := 0) (m := 0) (T := ∅)
      (by rw [Nat.zero_add, hN]; exact (expect_v m ρ c k).symm)) $$ [Hc HO Hat]
  · isplitr; · iapply (inv_at m ρ K (c, .inr (.inr k))); iexact HC
    isplitl [Hc]; · rw [hN]; iexact Hc
    isplitl [HO]; · iexact HO
    isplitr; · iapply (mayWait c _ n hm); iapply (lev_at m ρ K); iexact HC
    iexact Hat
  iintro ⟨HO, Hat, -, Hpay⟩
  iapply Hk
  isplitl [Hpay]
  · iapply (Entails.of_eq (show (bigSep ((Rd m ρ).duties (vCell c k) 0 \ ∅) fun d => (Rd m ρ).payload (vCell c k) 0 d)
        = owns (c : Thread nD τ) (vM k) fullShare (CT m ρ (par (rd k) c) k) by
      rw [Finset.sdiff_empty, duties_dma, bigSep_singleton, payload_v, recvPay])); iexact Hpay
  isplitl [Hat]
  · iexact Hat
  iexists _
  iexact HO

theorem wp_sent (k : KI) (n : ℕ) (hm : ∀ p ∈ owedL.drop n, lvS (.dma (sS k)) < lvS p.1)
    {q : DmaSem sig} (hq : q = sS k) {src dst : Memref sig .tc .vmem (sqs k) (elt k)} (hN : dst.view.dmaCredit = amtK k)
    {hsrc : src.view.WordExact} {hdst : dst.view.WordExact} {α : Type} {Q : α → sProp 𝕄} {kt : PUnit → Prog (TpuEff nD τ sig (Elt F) Λ₀ .tc) α} :
    iprop(ctx m ρ K ∗ SS (F := F) c k ∗ owns (c : Thread nD τ) (sM k) fullShare.right (CT m ρ c k) ∗ OW (F := F) c n)
      ⊢ iprop(((owns (c : Thread nD τ) (sM k) fullShare (CT m ρ c k) ∗ SD (F := F) c k ∗ OW (F := F) c n)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold SS SD OW
  iintro ⟨#HC, ⟨Hc, Hat⟩, HsR, ⟨%W, HO⟩⟩ Hk
  iapply (Rounds.wp_wait_rest_token 𝒱₀ ER (Rd m ρ) (c : Thread nD τ) none (κ := K (c, .inr (.inl k)))
      (wpE_waitDma2_eq 𝒱₀ (c : Thread nD τ) none Set.univ) (Set.mem_univ _) () (O := owe c n) (W := W) (R := 0) (m := 0) (T := ∅)
      (by rw [Nat.zero_add, hN]; exact (expect_s m ρ c k).symm)) $$ [Hc HO Hat]
  · isplitr; · iapply (inv_at m ρ K (c, .inr (.inl k))); iexact HC
    isplitl [Hc]; · rw [hN]; iexact Hc
    isplitl [HO]; · iexact HO
    isplitr; · iapply (mayWait c _ n hm); iapply (lev_at m ρ K); iexact HC
    iexact Hat
  iintro ⟨HO, Hat, -, Hpay⟩
  iapply Hk
  isplitl [Hpay HsR]
  · iapply (unhalve c (sM k) (CT m ρ c k))
    isplitl [Hpay]
    · iapply (Entails.of_eq (show (bigSep ((Rd m ρ).duties (sCell c k) 0 \ ∅) fun d => (Rd m ρ).payload (sCell c k) 0 d)
          = owns (c : Thread nD τ) (sM k) fullShare.left (CT m ρ c k) by
        rw [Finset.sdiff_empty, duties_dma, bigSep_singleton, payload_s, sendPay])); iexact Hpay
    iexact HsR
  isplitl [Hat]
  · iexact Hat
  iexists _
  iexact HO

/-! ## The barriers -/

theorem wp_sig (s : Sem sig) (r : Fin 3) {n : ℕ} (hO : owedL.drop n = (.reg s, r) :: owedL.drop (n + 1))
    (d : Dev nD) (hd : d = par r c) {q : Sem sig} (hq : q = s) {w : ℕ} (hw : w = 1)
    {α : Type} {Q : α → sProp 𝕄} {kt : PUnit → Prog (TpuEff nD τ sig (Elt F) Λ₀ .tc) α} :
    iprop(ctx m ρ K ∗ OW (F := F) c n ∗ dutyTok ER ((par r c : Thread nD τ), .reg s) 0 r ∗ (Rd m ρ).payload ((par r c : Thread nD τ), .reg s) 0 r)
      ⊢ iprop((OW (F := F) c (n + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (d : Thread nD τ) q w) kt) Q) := by
  subst hd hq hw
  unfold OW
  iintro ⟨#HC, ⟨%W, HO⟩, Ht, Hp⟩ Hk
  iapply (Rounds.wp_signal 𝒱₀ ER (Rd m ρ) (c : Thread nD τ) none (dst := (par r c : Thread nD τ)) (κ := K (par r c, .inl q))
      (d := r) (by rw [duties_reg]; exact Finset.mem_univ _) (amount_reg m ρ (par r c) q r) () (owe c (n + 1)) (owe_succ c hO))
    $$ [HO Ht Hp]
  · isplitr; · iapply (inv_at m ρ K (par r c, .inl q)); iexact HC
    isplitl [HO]; · iexact HO
    isplitl [Ht]; · iexact Ht
    isplitl [Hp]; · iexact Hp
    iapply (reached_at m ρ K (par r c, .inl q)); iexact HC
  iintro HO
  iapply Hk
  iexists W
  iexact HO

theorem wp_barwait (s : Sem sig) (n : ℕ) (hm : ∀ p ∈ owedL.drop n, lvS (.reg s) < lvS p.1)
    {q : Sem sig} (hq : q = s) {w : ℕ} (hw : w = 3)
    {α : Type} {Q : α → sProp 𝕄} {kt : PUnit → Prog (TpuEff nD τ sig (Elt F) Λ₀ .tc) α} :
    iprop(ctx m ρ K ∗ OW (F := F) c n ∗ cred (tallyAt ((c : Thread nD τ), SemLoc.reg s) () 3) ∗ atPos ER ((c : Thread nD τ), SemLoc.reg s) 0 ∅ 0)
      ⊢ iprop(((OW (F := F) c n ∗ atPos ER ((c : Thread nD τ), SemLoc.reg s) (0 + 1) ∅ 0 ∗ bigSep Finset.univ fun r : Fin 3 => (Rd m ρ).payload ((c : Thread nD τ), .reg s) 0 r)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait q w) kt) Q) := by
  subst hq hw
  unfold OW
  iintro ⟨#HC, ⟨%W, HO⟩, Hc, Hat⟩ Hk
  iapply (Rounds.wp_wait_rest_token 𝒱₀ ER (Rd m ρ) (c : Thread nD τ) none (κ := K (c, .inl q))
      (wpE_semWait_eq 𝒱₀ (c : Thread nD τ) none Set.univ) (Set.mem_univ _) () (O := owe c n) (W := W) (R := 0) (m := 0) (T := ∅)
      (by rw [Nat.zero_add]; exact (expect_reg m ρ c q).symm)) $$ [Hc HO Hat]
  · isplitr; · iapply (inv_at m ρ K (c, .inl q)); iexact HC
    isplitl [Hc]; · iexact Hc
    isplitl [HO]; · iexact HO
    isplitr; · iapply (mayWait c _ n hm); iapply (lev_at m ρ K); iexact HC
    iexact Hat
  iintro ⟨HO, Hat, -, Hpay⟩
  iapply Hk
  isplitl [HO]
  · iexists _; iexact HO
  isplitl [Hat]
  · iexact Hat
  rw [Finset.sdiff_empty, duties_reg]
  iexact Hpay

/-! ## Loads and stores of a slot -/

section Slot

variable {s : Shape} {e : EltTy} (M : Memref sig .tc .vmem s e) (R : Rect s) (hR : ∀ a, R.stride a = 1)

/-- A load of the whole slot reads what it holds. -/
theorem wp_ld {q : PosShare TreeShare} {X : R.shape.Idx → Elt F e} {hl : M.view.LoadsAt R.toLoadRect}
    {α : Type} {Q : α → sProp 𝕄} {kt : (R.shape.Idx → Elt F e) → Prog (TpuEff nD τ sig (Elt F) Λ₀ .tc) α} :
    (owns (c : Thread nD τ) (M.slice R hR) q X : sProp 𝕄)
      ⊢ iprop((owns (c : Thread nD τ) (M.slice R hR) q X -∗ wp frame (wpE (defs₀ (F := F)) 𝒱₀ (c : Thread nD τ) none) Set.univ (kt X) Q)
          -∗ wp frame (wpE (defs₀ (F := F)) 𝒱₀ (c : Thread nD τ) none) Set.univ (.op (.load M R.toLoadRect hl) kt) Q) := by
  unfold owns
  iintro ⟨%f, %hf, H⟩ Hk
  iapply (wp_load_rect 𝒱₀ (c : Thread nD τ) none Set.univ (m := M) (r := R) (f := f) (S := (M.slice R hR).view.set) (Finset.Subset.refl _)) $$ H
  iintro H
  have e : (M.access R).read (Elt F) f = X := hf
  rw [e]
  iapply Hk
  iexists f
  isplitr
  · ipureintro; exact hf
  iexact H

/-- A load of a part of the slot whose value is not used. -/
theorem wp_ld_any (r : Rect s) (hr : r.set ⊆ R.set) {q : PosShare TreeShare} {X : R.shape.Idx → Elt F e} {hl : M.view.LoadsAt r.toLoadRect}
    {α : Type} {Q : α → sProp 𝕄} {kt : (r.shape.Idx → Elt F e) → Prog (TpuEff nD τ sig (Elt F) Λ₀ .tc) α} :
    (owns (c : Thread nD τ) (M.slice R hR) q X : sProp 𝕄)
      ⊢ iprop((∀ v, owns (c : Thread nD τ) (M.slice R hR) q X -∗ wp frame (wpE (defs₀ (F := F)) 𝒱₀ (c : Thread nD τ) none) Set.univ (kt v) Q)
          -∗ wp frame (wpE (defs₀ (F := F)) 𝒱₀ (c : Thread nD τ) none) Set.univ (.op (.load M r.toLoadRect hl) kt) Q) := by
  unfold owns
  iintro ⟨%f, %hf, H⟩ Hk
  have hS : (M.access r).set ⊆ (M.slice R hR).view.set := by
    rw [View.set_slice]
    show _ ⊆ (M.view.slice R).set
    rw [View.set_slice]
    exact Finset.map_subset_map.mpr hr
  iapply (wp_load_rect 𝒱₀ (c : Thread nD τ) none Set.univ (m := M) (r := r) (f := f) (S := (M.slice R hR).view.set) hS) $$ H
  iintro H
  iapply Hk
  iexists f
  isplitr
  · ipureintro; exact hf
  iexact H

/-- A store of the whole slot. -/
theorem wp_st {X w : R.shape.Idx → Elt F e} {hx : (M.access R).Stores Finset.univ} {hm : Finset.univ = Finset.univ ∨ ∀ a, R.stride a = 1}
    {α : Type} {Q : α → sProp 𝕄} {kt : PUnit → Prog (TpuEff nD τ sig (Elt F) Λ₀ .tc) α} :
    (owns (c : Thread nD τ) (M.slice R hR) fullShare X : sProp 𝕄)
      ⊢ iprop((owns (c : Thread nD τ) (M.slice R hR) fullShare w -∗ wp frame (wpE (defs₀ (F := F)) 𝒱₀ (c : Thread nD τ) none) Set.univ (kt ⟨⟩) Q)
          -∗ wp frame (wpE (defs₀ (F := F)) 𝒱₀ (c : Thread nD τ) none) Set.univ (.op (.store M R w Finset.univ hx hm) kt) Q) := by
  unfold owns
  iintro ⟨%f, %hf, H⟩ Hk
  iapply (wp_store 𝒱₀ (c : Thread nD τ) none Set.univ (m := M) (r := R) (f := f) (w := w) (Mk := Finset.univ) (hx := hx) (hm := hm)
    (S := (M.slice R hR).view.set) (Finset.Subset.refl _)) $$ H
  iintro H
  iapply Hk
  iexists _
  isplitr
  · ipureintro; exact View.read_write_univ (v := M.access R) f w
  iexact H

end Slot

/-- A store of a part of a slot: the rectangle `q` of the whole lies at `p` in the slot at `o`. -/
theorem wp_st_part {s : Shape} {e : EltTy} (M : Memref sig .tc .vmem s e)
    (o S p T q : Fin s.rank → ℕ) (hoS : ∀ a, o a + S a ≤ s.size a) (hpT : ∀ a, p a + T a ≤ S a) (hqT : ∀ a, q a + T a ≤ s.size a)
    (hq : ∀ a, q a = o a + p a)
    {X : (Rect.unit o S hoS).shape.Idx → Elt F e} {w : (Rect.unit q T hqT).shape.Idx → Elt F e}
    {hx : (M.access (Rect.unit q T hqT)).Stores Finset.univ} {hm : Finset.univ = Finset.univ ∨ ∀ a, (Rect.unit q T hqT).stride a = 1}
    {α : Type} {Q : α → sProp 𝕄} {kt : PUnit → Prog (TpuEff nD τ sig (Elt F) Λ₀ .tc) α} :
    (owns (c : Thread nD τ) (M.slice (Rect.unit o S hoS) (fun _ => rfl)) fullShare X : sProp 𝕄)
      ⊢ iprop((owns (c : Thread nD τ) (M.slice (Rect.unit o S hoS) (fun _ => rfl)) fullShare
              (Rect.overlay (sh := (Rect.unit o S hoS).shape) (Rect.unit (s := (Rect.unit o S hoS).shape) p T hpT) X w)
            -∗ wp frame (wpE (defs₀ (F := F)) 𝒱₀ (c : Thread nD τ) none) Set.univ (kt ⟨⟩) Q)
          -∗ wp frame (wpE (defs₀ (F := F)) 𝒱₀ (c : Thread nD τ) none) Set.univ (.op (.store M (Rect.unit q T hqT) w Finset.univ hx hm) kt) Q) := by
  have hemb : ∀ j : (Rect.unit q T hqT).shape.Idx, (Rect.unit o S hoS).emb ((Rect.unit (s := (Rect.unit o S hoS).shape) p T hpT).emb j) = (Rect.unit q T hqT).emb j := by
    intro j
    funext a
    apply Fin.ext
    simp only [Rect.emb_apply]
    show o a + 1 * (p a + 1 * (j a : ℕ)) = q a + 1 * (j a : ℕ)
    rw [hq a]; omega
  unfold owns
  iintro ⟨%f, %hf, H⟩ Hk
  have hS : (M.access (Rect.unit q T hqT)).setOn Finset.univ ⊆ (M.slice (Rect.unit o S hoS) (fun _ => rfl)).view.set := by
    show (M.view.slice (Rect.unit q T hqT)).set ⊆ (M.view.slice (Rect.unit o S hoS)).set
    rw [View.set_slice, View.set_slice]
    refine Finset.map_subset_map.mpr fun i hi => ?_
    obtain ⟨j, rfl⟩ : ∃ j, (Rect.unit q T hqT).emb j = i := (Rect.unit _ _ _).toLoadRect.exists_idx_of_mem hi
    rw [← hemb, ← Rect.map_emb_univ]
    exact Finset.mem_map_of_mem _ (Finset.mem_univ _)
  iapply (wp_store 𝒱₀ (c : Thread nD τ) none Set.univ (m := M) (r := Rect.unit q T hqT) (f := f) (w := w) (Mk := Finset.univ) (hx := hx) (hm := hm)
    (S := (M.slice (Rect.unit o S hoS) (fun _ => rfl)).view.set) hS) $$ H
  iintro H
  iapply Hk
  iexists _
  isplitr
  · ipureintro
    subst hf
    funext y
    show M.view.read (Elt F) ((M.view.slice (Rect.unit q T hqT)).write (Elt F) f w Finset.univ) ((Rect.unit o S hoS).emb y) = _
    by_cases hy : y ∈ (Rect.unit (s := (Rect.unit o S hoS).shape) p T hpT).set
    · obtain ⟨j, rfl⟩ : ∃ j, (Rect.unit (s := (Rect.unit o S hoS).shape) p T hpT).emb j = y := (Rect.unit _ _ _).toLoadRect.exists_idx_of_mem hy
      rw [Rect.overlay_emb, hemb]
      exact View.read_slice_write_emb (Rect.unit q T hqT) _ w (Finset.mem_univ _)
    · rw [Rect.overlay_of_not_mem _ _ _ hy]
      rw [View.read_slice_write_of_not_mem]
      · rfl
      · intro hc
        obtain ⟨j, -, hj⟩ := Finset.mem_map.mp hc
        rw [← hemb] at hj
        apply hy
        rw [← (Rect.unit o S hoS).emb.injective hj, ← Rect.map_emb_univ]
        exact Finset.mem_map_of_mem _ (Finset.mem_univ _)
  iexact H

end Steps

end Cert.KernelIdeal.Hyper
-- ==== Proof.KernelIdeal.Loads.lean ====
/-
# The parts of the body, one theorem each
-/
module

public import proofs.«01_k».proof.Proof.KernelIdeal.Steps

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

/-- The weakest precondition of a part of the body on device `c`. -/
abbrev WP {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-- The staged inputs. -/
def IN : sProp 𝕄 :=
  iprop(((c : Thread nD τ).loc cc0_stg0_0 ↦{fullShare} stg0 m ρ c) ∗ ((c : Thread nD τ).loc cc0_stg1_0 ↦{fullShare} stg1 m ρ c)
    ∗ ((c : Thread nD τ).loc cc0_stg2_0 ↦{fullShare} stg2 m ρ c) ∗ ((c : Thread nD τ).loc cc0_stg3_0 ↦{fullShare} stg3 m ρ c)
    ∗ ((c : Thread nD τ).loc cc0_stg4_0 ↦{fullShare} stg4 m ρ c))

section Loads

theorem wp_ldx (b : Fin 2) {hl : xM.view.LoadsAt (xR b).toLoadRect} {α : Type} {Q : α → sProp 𝕄}
    {kt : ((xR b).shape.Idx → Elt F .bf16) → Prog (TpuEff nD τ sig (Elt F) Λ₀ .tc) α} :
    IN m ρ c ⊢ iprop((IN m ρ c -∗ WP c (kt (ldx m ρ b c)) Q) -∗ WP c (.op (.load xM (xR b).toLoadRect hl) kt) Q) := by
  unfold IN
  iintro ⟨H0, H1, H2, H3, H4⟩ Hk
  iapply (wp_load 𝒱₀ (c : Thread nD τ) none Set.univ (m := xM) (r := (xR b).toLoadRect) (f := stg0 m ρ c) (S := Finset.univ) (Finset.subset_univ _)) $$ H0
  iintro H0
  iapply Hk
  isplitl [H0]; · iexact H0
  isplitl [H1]; · iexact H1
  isplitl [H2]; · iexact H2
  isplitl [H3]; · iexact H3
  iexact H4

theorem wp_ldwq {hl : wqM.view.LoadsAt wqR.toLoadRect} {α : Type} {Q : α → sProp 𝕄}
    {kt : (wqR.shape.Idx → Elt F .bf16) → Prog (TpuEff nD τ sig (Elt F) Λ₀ .tc) α} :
    IN m ρ c ⊢ iprop((IN m ρ c -∗ WP c (kt (ldwq m ρ c)) Q) -∗ WP c (.op (.load wqM wqR.toLoadRect hl) kt) Q) := by
  unfold IN
  iintro ⟨H0, H1, H2, H3, H4⟩ Hk
  iapply (wp_load 𝒱₀ (c : Thread nD τ) none Set.univ (m := wqM) (r := wqR.toLoadRect) (f := stg1 m ρ c) (S := Finset.univ) (Finset.subset_univ _)) $$ H1
  iintro H1
  iapply Hk
  isplitl [H0]; · iexact H0
  isplitl [H1]; · iexact H1
  isplitl [H2]; · iexact H2
  isplitl [H3]; · iexact H3
  iexact H4

theorem wp_ldk (b : Fin 2) {hl : kM.view.LoadsAt (kR b).toLoadRect} {α : Type} {Q : α → sProp 𝕄}
    {kt : ((kR b).shape.Idx → Elt F .bf16) → Prog (TpuEff nD τ sig (Elt F) Λ₀ .tc) α} :
    IN m ρ c ⊢ iprop((IN m ρ c -∗ WP c (kt (ldk m ρ b c)) Q) -∗ WP c (.op (.load kM (kR b).toLoadRect hl) kt) Q) := by
  unfold IN
  iintro ⟨H0, H1, H2, H3, H4⟩ Hk
  iapply (wp_load 𝒱₀ (c : Thread nD τ) none Set.univ (m := kM) (r := (kR b).toLoadRect) (f := stg2 m ρ c) (S := Finset.univ) (Finset.subset_univ _)) $$ H2
  iintro H2
  iapply Hk
  isplitl [H0]; · iexact H0
  isplitl [H1]; · iexact H1
  isplitl [H2]; · iexact H2
  isplitl [H3]; · iexact H3
  iexact H4

theorem wp_ldv (b : Fin 2) {hl : vvM.view.LoadsAt (kR b).toLoadRect} {α : Type} {Q : α → sProp 𝕄}
    {kt : ((kR b).shape.Idx → Elt F .bf16) → Prog (TpuEff nD τ sig (Elt F) Λ₀ .tc) α} :
    IN m ρ c ⊢ iprop((IN m ρ c -∗ WP c (kt (ldv m ρ b c)) Q) -∗ WP c (.op (.load vvM (kR b).toLoadRect hl) kt) Q) := by
  unfold IN
  iintro ⟨H0, H1, H2, H3, H4⟩ Hk
  iapply (wp_load 𝒱₀ (c : Thread nD τ) none Set.univ (m := vvM) (r := (kR b).toLoadRect) (f := stg3 m ρ c) (S := Finset.univ) (Finset.subset_univ _)) $$ H3
  iintro H3
  iapply Hk
  isplitl [H0]; · iexact H0
  isplitl [H1]; · iexact H1
  isplitl [H2]; · iexact H2
  isplitl [H3]; · iexact H3
  iexact H4

theorem wp_ldwo {hl : woM.view.LoadsAt woR.toLoadRect} {α : Type} {Q : α → sProp 𝕄}
    {kt : (woR.shape.Idx → Elt F .bf16) → Prog (TpuEff nD τ sig (Elt F) Λ₀ .tc) α} :
    IN m ρ c ⊢ iprop((IN m ρ c -∗ WP c (kt (ldwo m ρ c)) Q) -∗ WP c (.op (.load woM woR.toLoadRect hl) kt) Q) := by
  unfold IN
  iintro ⟨H0, H1, H2, H3, H4⟩ Hk
  iapply (wp_load 𝒱₀ (c : Thread nD τ) none Set.univ (m := woM) (r := woR.toLoadRect) (f := stg4 m ρ c) (S := Finset.univ) (Finset.subset_univ _)) $$ H4
  iintro H4
  iapply Hk
  isplitl [H0]; · iexact H0
  isplitl [H1]; · iexact H1
  isplitl [H2]; · iexact H2
  isplitl [H3]; · iexact H3
  iexact H4

/-- A numerator slot's rectangle and one head's columns of it, in the whole buffer. -/
abbrev nO (t : NI) : Fin 5 → ℕ := ![(t.1 : ℕ), t.2.1, t.2.2, 0, 0]
abbrev dO (t : DI) : Fin 4 → ℕ := ![(t.1 : ℕ), t.2, 0, 0]
abbrev nC (t : NI) (h : Fin 2) : Fin 5 → ℕ := ![(t.1 : ℕ), t.2.1, t.2.2, 0, 64 * (h : ℕ)]
abbrev dC (t : DI) (h : Fin 4) : Fin 4 → ℕ := ![(t.1 : ℕ), t.2, 0, 256 * (h : ℕ)]

theorem nC_inb (t : NI) (h : Fin 2) : ∀ a, nC t h a + S1x1x1x256x64.size a ≤ S3x2x2x256x128.size a := by
  revert t h; decide
theorem dC_inb (t : DI) (h : Fin 4) : ∀ a, dC t h a + S1x1x8x256.size a ≤ S3x2x8x1024.size a := by
  revert t h; decide
abbrev nCR (t : NI) (h : Fin 2) : Rect S3x2x2x256x128 := Rect.unit (s := S3x2x2x256x128) (nC t h) S1x1x1x256x64.size (nC_inb t h)
abbrev dCR (t : DI) (h : Fin 4) : Rect S3x2x8x1024 := Rect.unit (s := S3x2x8x1024) (dC t h) S1x1x8x256.size (dC_inb t h)

theorem nP_inb (h : Fin 2) : ∀ a, (![0, 0, 0, 0, 64 * (h : ℕ)] : Fin 5 → ℕ) a + S1x1x1x256x64.size a ≤ S1x1x1x256x128.size a := by
  revert h; decide
theorem dP_inb (h : Fin 4) : ∀ a, (![0, 0, 0, 256 * (h : ℕ)] : Fin 4 → ℕ) a + S1x1x8x256.size a ≤ S1x1x8x1024.size a := by
  revert h; decide

theorem nCR_sub (t : NI) (h : Fin 2) : (nCR t h).set ⊆ (nR t).set := by
  intro i hi
  rw [Rect.mem_set_unit] at hi ⊢
  intro a
  have := hi a
  have hh := h.isLt
  have hi' := (i a).isLt
  fin_cases a <;> simp [S1x1x1x256x64, S1x1x1x256x128, S3x2x2x256x128] at this hi' ⊢ <;> omega
theorem dCR_sub (t : DI) (h : Fin 4) : (dCR t h).set ⊆ (dR t).set := by
  intro i hi
  rw [Rect.mem_set_unit] at hi ⊢
  intro a
  have := hi a
  have hh := h.isLt
  have hi' := (i a).isLt
  fin_cases a <;> simp [S1x1x8x256, S1x1x8x1024, S3x2x8x1024] at this hi' ⊢ <;> omega

/-- The store of one head's numerators into its slot, with the load before it whose value is not used. -/
theorem wp_putN (t : NI) (h : Fin 2) (w : FVec F S1x1x1x256x64 .bf16) {X : FVec F S1x1x1x256x128 .bf16} {w' : FVec F S1x1x1x256x64 .bf16} (hw : w' = w)
    {hl : snM.view.LoadsAt (nCR t h).toLoadRect} {hx : (snM.access (nCR t h)).Stores Finset.univ} {hm : Finset.univ = Finset.univ ∨ ∀ a, (nCR t h).stride a = 1}
    {α : Type} {Q : α → sProp 𝕄} {kt : PUnit → Prog (TpuEff nD τ sig (Elt F) Λ₀ .tc) α} :
    (owns (c : Thread nD τ) (nS snM t) fullShare X : sProp 𝕄)
      ⊢ iprop((owns (c : Thread nD τ) (nS snM t) fullShare ((nP h).overlay X w) -∗ WP c (kt ⟨⟩) Q)
        -∗ WP c (.op (.load snM (nCR t h).toLoadRect hl) fun _ => .op (.store snM (nCR t h) w' Finset.univ hx hm) kt) Q) := by
  subst hw
  iintro H Hk
  iapply (wp_ld_any c snM (nR t) (fun _ => rfl) (nCR t h) (nCR_sub t h)) $$ H
  iintro %v H
  iapply (wp_st_part c snM (nO t) S1x1x1x256x128.size ![0, 0, 0, 0, 64 * (h : ℕ)] S1x1x1x256x64.size (nC t h) (nR_inb t) (nP_inb h) (nC_inb t h)
    (by intro a; fin_cases a <;> simp)) $$ H
  iexact Hk

/-- The store of one head's denominators into its slot, with the load before it whose value is not used. -/
theorem wp_putD (t : DI) (h : Fin 4) (w : FVec F S1x1x8x256 .f32) {X : FVec F S1x1x8x1024 .f32} {w' : FVec F S1x1x8x256 .f32} (hw : w' = w)
    {hl : sdM.view.LoadsAt (dCR t h).toLoadRect} {hx : (sdM.access (dCR t h)).Stores Finset.univ} {hm : Finset.univ = Finset.univ ∨ ∀ a, (dCR t h).stride a = 1}
    {α : Type} {Q : α → sProp 𝕄} {kt : PUnit → Prog (TpuEff nD τ sig (Elt F) Λ₀ .tc) α} :
    (owns (c : Thread nD τ) (dS sdM t) fullShare X : sProp 𝕄)
      ⊢ iprop((owns (c : Thread nD τ) (dS sdM t) fullShare ((dP h).overlay X w) -∗ WP c (kt ⟨⟩) Q)
        -∗ WP c (.op (.load sdM (dCR t h).toLoadRect hl) fun _ => .op (.store sdM (dCR t h) w' Finset.univ hx hm) kt) Q) := by
  subst hw
  iintro H Hk
  iapply (wp_ld_any c sdM (dR t) (fun _ => rfl) (dCR t h) (dCR_sub t h)) $$ H
  iintro %v H
  iapply (wp_st_part c sdM (dO t) S1x1x8x1024.size ![0, 0, 0, 256 * (h : ℕ)] S1x1x8x256.size (dC t h) (dR_inb t) (dP_inb h) (dC_inb t h)
    (by intro a; fin_cases a <;> simp)) $$ H
  iexact Hk

end Loads

end Cert.KernelIdeal.Hyper
-- ==== Proof.KernelIdeal.Common.lean ====
/-
# Rules in the form the body uses them

The rules of the steps again, one hypothesis at a time.
-/
module

public import proofs.«01_k».proof.Proof.KernelIdeal.Loads

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

/-- What a transfer's source slot holds. -/
abbrev SF (k : KI) (X : (shp k).Idx → Elt F (elt k)) : sProp 𝕄 := owns (c : Thread nD τ) (sM k) fullShare X
/-- The half of it kept while the transfer runs. -/
abbrev SR (k : KI) : sProp 𝕄 := owns (c : Thread nD τ) (sM k) fullShare.right (CT m ρ c k)
/-- A received slot. -/
abbrev RV (k : KI) : sProp 𝕄 := owns (c : Thread nD τ) (vM k) fullShare (CT m ρ (par (rd k) c) k)
/-- The partner's slot the transfer writes. -/
abbrev DP (k : KI) : sProp 𝕄 := slotAny (F := F) (par (rd k) c) k

theorem done {α : Type} {a : α} {Kt : α → sProp 𝕄} : Kt a ⊢ WP c (Prog.ret a) Kt := by
  show _ ⊢ wp _ _ _ _ _
  rw [wp_ret]
  iintro H
  imodintro
  iexact H

theorem start (k : KI) {n : ℕ} (hO : owedL.drop n = (.dma (vS k), rd k) :: owedL.drop (n + 1))
    (d : Dev nD) (hd : d = par (rd k) c) {q₁ q₂ : DmaSem sig} (h₁ : q₁ = sS k) (h₂ : q₂ = vS k)
    {src dst : Memref sig .tc .vmem (sqs k) (elt k)} (hs : src = sQ k) (ht : dst = vQ k)
    {hsc : (dst : Memref sig (Dev.tc d : Thread nD τ).2.kind .vmem (sqs k) (elt k)).view.ref.isScScratch = false}
    {hsrc : src.view.WordExact} {hdst : dst.view.WordExact}
    {hsem : DmaTarget.Typed .vmem (.dma q₂) (.remote (Dev.tc d : Thread nD τ) dst (.dma q₁) hsc)}
    {α : Type} {Q : α → sProp 𝕄} {kt : PUnit → Prog (TpuEff nD τ sig (Elt F) Λ₀ .tc) α} :
    ctx m ρ K ⊢ iprop(SF c k (CT m ρ c k) -∗ DP c k -∗ TS c k -∗ OW c n
          -∗ (SR m ρ c k -∗ SS c k -∗ OW c (n + 1) -∗ WP c (kt ⟨⟩) Q)
          -∗ WP c (.op (.enqueueDma src (.remote (Dev.tc d : Thread nD τ) dst (.dma q₁) hsc) (.dma q₂) hsrc hdst hsem) kt) Q) := by
  iintro #HC Hs Hp Ht HO Hk
  iapply (wp_start m ρ K c k hO d hd h₁ h₂ hs ht) $$ [$]
  iintro ⟨Hs, Ht, HO⟩
  iapply Hk $$ Hs Ht HO

theorem recv (k : KI) (n : ℕ) (hm : ∀ p ∈ owedL.drop n, lvS (.dma (vS k)) < lvS p.1)
    {q : DmaSem sig} (hq : q = vS k) {src dst : Memref sig .tc .vmem (sqs k) (elt k)} (hs : src = sQ k) (ht : dst = vQ k)
    {hsrc : src.view.WordExact} {hdst : dst.view.WordExact} {α : Type} {Q : α → sProp 𝕄} {kt : PUnit → Prog (TpuEff nD τ sig (Elt F) Λ₀ .tc) α} :
    ctx m ρ K ⊢ iprop(VV c k -∗ OW c n -∗ (RV m ρ c k -∗ VD c k -∗ OW c n -∗ WP c (kt ⟨⟩) Q)
          -∗ WP c (.op (.waitDma2 q src dst hsrc hdst) kt) Q) := by
  subst hs ht
  iintro #HC HV HO Hk
  iapply (wp_recv m ρ K c k n hm hq (vQ_amt k)) $$ [$]
  iintro ⟨Hr, HV, HO⟩
  iapply Hk $$ Hr HV HO

theorem sent (k : KI) (n : ℕ) (hm : ∀ p ∈ owedL.drop n, lvS (.dma (sS k)) < lvS p.1)
    {q : DmaSem sig} (hq : q = sS k) {src dst : Memref sig .tc .vmem (sqs k) (elt k)} (hs : src = vQ k) (ht : dst = sQ k)
    {hsrc : src.view.WordExact} {hdst : dst.view.WordExact} {α : Type} {Q : α → sProp 𝕄} {kt : PUnit → Prog (TpuEff nD τ sig (Elt F) Λ₀ .tc) α} :
    ctx m ρ K ⊢ iprop(SS c k -∗ SR m ρ c k -∗ OW c n -∗ (SF c k (CT m ρ c k) -∗ SD c k -∗ OW c n -∗ WP c (kt ⟨⟩) Q)
          -∗ WP c (.op (.waitDma2 q src dst hsrc hdst) kt) Q) := by
  subst hs ht
  iintro #HC HV Hs HO Hk
  iapply (wp_sent m ρ K c k n hm hq (sQ_amt k)) $$ [$]
  iintro ⟨Hr, HV, HO⟩
  iapply Hk $$ Hr HV HO

/-- The store of a whole numerator slot, with the load before it whose value is not used, -/
theorem putN (t : NI) {X w : FVec F S1x1x1x256x128 .bf16} (hw : w = CT m ρ c (.inl t))
    {hl : snM.view.LoadsAt (nR t).toLoadRect} {hx : (snM.access (nR t)).Stores Finset.univ} {hm : Finset.univ = Finset.univ ∨ ∀ a, (nR t).stride a = 1}
    {α : Type} {Q : α → sProp 𝕄} {kt : PUnit → Prog (TpuEff nD τ sig (Elt F) Λ₀ .tc) α} :
    SF c (.inl t) X ⊢ iprop((SF c (.inl t) (CT m ρ c (.inl t)) -∗ WP c (kt ⟨⟩) Q)
        -∗ WP c (.op (.load snM (nR t).toLoadRect hl) fun _ => .op (.store snM (nR t) w Finset.univ hx hm) kt) Q) := by
  subst hw
  iintro H Hk
  iapply (wp_ld_any c snM (nR t) (fun _ => rfl) (nR t) (fun _ h => h)) $$ H
  iintro %v H
  iapply (wp_st c snM (nR t) (fun _ => rfl)) $$ H
  iexact Hk
/-- and of a whole denominator slot. -/
theorem stD (t : DI) {X w : FVec F S1x1x8x1024 .f32} (hw : w = CT m ρ c (.inr t))
    {hx : (sdM.access (dR t)).Stores Finset.univ} {hm : Finset.univ = Finset.univ ∨ ∀ a, (dR t).stride a = 1}
    {α : Type} {Q : α → sProp 𝕄} {kt : PUnit → Prog (TpuEff nD τ sig (Elt F) Λ₀ .tc) α} :
    SF c (.inr t) X ⊢ iprop((SF c (.inr t) (CT m ρ c (.inr t)) -∗ WP c (kt ⟨⟩) Q)
        -∗ WP c (.op (.store sdM (dR t) w Finset.univ hx hm) kt) Q) := by
  subst hw
  iintro H Hk
  iapply (wp_st c sdM (dR t) (fun _ => rfl)) $$ H
  iexact Hk

/-- The same with the load before it. -/
theorem putD (t : DI) {X w : FVec F S1x1x8x1024 .f32} (hw : w = CT m ρ c (.inr t))
    {hl : sdM.view.LoadsAt (dR t).toLoadRect} {hx : (sdM.access (dR t)).Stores Finset.univ} {hm : Finset.univ = Finset.univ ∨ ∀ a, (dR t).stride a = 1}
    {α : Type} {Q : α → sProp 𝕄} {kt : PUnit → Prog (TpuEff nD τ sig (Elt F) Λ₀ .tc) α} :
    SF c (.inr t) X ⊢ iprop((SF c (.inr t) (CT m ρ c (.inr t)) -∗ WP c (kt ⟨⟩) Q)
        -∗ WP c (.op (.load sdM (dR t).toLoadRect hl) fun _ => .op (.store sdM (dR t) w Finset.univ hx hm) kt) Q) := by
  iintro H Hk
  iapply (wp_ld_any c sdM (dR t) (fun _ => rfl) (dR t) (fun _ h => h)) $$ H
  iintro %v H
  iapply (stD m ρ c t hw) $$ H
  iexact Hk

/-- Two heads side by side are the whole slot, -/
theorem fullN (b hp : Fin 2) (X : FVec F S1x1x1x256x128 .bf16) (h h' : Fin 4) (e : h = ⟨2 * hp, by omega⟩) (e' : h' = ⟨2 * hp + 1, by omega⟩) :
    SF c (.inl (0, b, hp)) ((nP 1).overlay ((nP 0).overlay X (numH m ρ c b h)) (numH m ρ c b h')) ⊢ SF c (.inl (0, b, hp)) (CT m ρ c (.inl (0, b, hp))) := by
  subst e e'
  exact Entails.of_eq (congrArg (SF c (.inl (0, b, hp))) (fillN_eq m ρ c b hp X _))
/-- and four heads. -/
theorem fullD (b : Fin 2) (X : FVec F S1x1x8x1024 .f32) :
    SF c (.inr (0, b)) ((dP 3).overlay ((dP 2).overlay ((dP 1).overlay ((dP 0).overlay X (denH m ρ c b 0)) (denH m ρ c b 1)) (denH m ρ c b 2)) (denH m ρ c b 3))
      ⊢ SF c (.inr (0, b)) (CT m ρ c (.inr (0, b))) :=
  Entails.of_eq (congrArg (SF c (.inr (0, b))) (fillD_eq m ρ c b X _))

/-- The output block. -/
abbrev OU (X : FVec F S2x256x512 .f32) : sProp 𝕄 := owns (c : Thread nD τ) oM fullShare X

/-- What a store of a rectangle leaves. -/
theorem read_stored {sh : Shape} {e : EltTy} (M : Memref sig .tc .vmem sh e) (R : Rect sh) (f : M.view.ty.Contents (Elt F)) (w : R.shape.Idx → Elt F e) :
    M.view.read (Elt F) ((M.access R).write (Elt F) f w Finset.univ) = R.overlay (M.view.read (Elt F) f) w := by
  funext y
  show M.view.read (Elt F) ((M.view.slice R).write (Elt F) f w Finset.univ) y = _
  by_cases hy : y ∈ R.set
  · obtain ⟨j, rfl⟩ : ∃ j, R.emb j = y := R.toLoadRect.exists_idx_of_mem hy
    rw [Rect.overlay_emb]
    exact View.read_slice_write_emb R _ w (Finset.mem_univ _)
  · rw [Rect.overlay_of_not_mem _ _ _ hy]
    rw [View.read_slice_write_of_not_mem]
    intro hc
    obtain ⟨j, -, hj⟩ := Finset.mem_map.mp hc
    apply hy
    rw [← hj, ← Rect.map_emb_univ]
    exact Finset.mem_map_of_mem _ (Finset.mem_univ _)

/-- The store of one batch of the output, with the load before it whose value is not used. -/
theorem putO (b : Fin 2) (w : FVec F S1x256x512 .f32) {X : FVec F S2x256x512 .f32} {w' : FVec F S1x256x512 .f32} (hw : w' = w)
    {hl : oM.view.LoadsAt (xR b).toLoadRect} {hx : (oM.access (xR b)).Stores Finset.univ} {hm : Finset.univ = Finset.univ ∨ ∀ a, (xR b).stride a = 1}
    {α : Type} {Q : α → sProp 𝕄} {kt : PUnit → Prog (TpuEff nD τ sig (Elt F) Λ₀ .tc) α} :
    OU c X ⊢ iprop((OU c ((xR b).overlay X w) -∗ WP c (kt ⟨⟩) Q)
        -∗ WP c (.op (.load oM (xR b).toLoadRect hl) fun _ => .op (.store oM (xR b) w' Finset.univ hx hm) kt) Q) := by
  subst hw
  unfold OU owns
  iintro ⟨%f, %hf, H⟩ Hk
  have hS : (oM.access (xR b)).set ⊆ oM.view.set := by
    rw [show oM.view.set = Finset.univ from View.set_whole _]; exact Finset.subset_univ _
  iapply (wp_load_rect 𝒱₀ (c : Thread nD τ) none Set.univ (m := oM) (r := xR b) (f := f) (S := oM.view.set) hS) $$ H
  iintro H
  iapply (wp_store 𝒱₀ (c : Thread nD τ) none Set.univ (m := oM) (r := xR b) (f := f) (w := w') (Mk := Finset.univ) (hx := hx) (hm := hm)
    (S := oM.view.set) hS) $$ H
  iintro H
  iapply Hk
  iexists _
  isplitr
  · ipureintro
    exact (read_stored oM (xR b) f w').trans (by rw [hf])
  iexact H

/-- The output does not depend on what was there. -/
theorem fullO (X : FVec F S2x256x512 .f32) : OU c ((xR 1).overlay ((xR 0).overlay X (o0 m ρ c)) (o1 m ρ c)) ⊢ OU c (outAt m ρ c) :=
  Entails.of_eq (congrArg (OU c) (fillO_eq m ρ c X _))

/-- A signal of the first barrier hands this device's receive slots of the round to the partner, -/
theorem sigBar (r : Fin 3) {n : ℕ} (hO : owedL.drop n = (.reg barS, r) :: owedL.drop (n + 1))
    (d : Dev nD) (hd : d = par r c) {q : Sem sig} (hq : q = barS) {w : ℕ} (hw : w = 1)
    {α : Type} {Q : α → sProp 𝕄} {kt : PUnit → Prog (TpuEff nD τ sig (Elt F) Λ₀ .tc) α} :
    ctx m ρ K ⊢ iprop(OW c n -∗ dutyTok ER ((par r c : Thread nD τ), .reg barS) 0 r -∗ recvSlots (F := F) r c
        -∗ (OW c (n + 1) -∗ WP c (kt ⟨⟩) Q) -∗ WP c (.op (.semSignal (d : Thread nD τ) q w) kt) Q) := by
  iintro #HC HO Ht Hp Hk
  have e : recvSlots (F := F) r c = (Rd m ρ).payload (barCell (par r c)) 0 r := by rw [payload_bar, par_par]
  ihave Hp := (Entails.of_eq e) $$ Hp
  iapply (wp_sig m ρ K c barS r hO d hd hq hw) $$ [$]
  iexact Hk
/-- and one of the last barrier hands nothing. -/
theorem sigFin (r : Fin 3) {n : ℕ} (hO : owedL.drop n = (.reg finS, r) :: owedL.drop (n + 1))
    (d : Dev nD) (hd : d = par r c) {q : Sem sig} (hq : q = finS) {w : ℕ} (hw : w = 1)
    {α : Type} {Q : α → sProp 𝕄} {kt : PUnit → Prog (TpuEff nD τ sig (Elt F) Λ₀ .tc) α} :
    ctx m ρ K ⊢ iprop(OW c n -∗ dutyTok ER ((par r c : Thread nD τ), .reg finS) 0 r
        -∗ (OW c (n + 1) -∗ WP c (kt ⟨⟩) Q) -∗ WP c (.op (.semSignal (d : Thread nD τ) q w) kt) Q) := by
  iintro #HC HO Ht Hk
  iapply (wp_sig m ρ K c finS r hO d hd hq hw) $$ [HO Ht]
  · isplitr; · iexact HC
    isplitl [HO]; · iexact HO
    isplitl [Ht]; · iexact Ht
    rw [payload_fin]
    iempintro
  iexact Hk

/-- The partners' slots for one round. -/
def partSlots (r : Fin 3) : sProp 𝕄 := recvSlots (F := F) r (par r c)

theorem waitBar (n : ℕ) (hm : ∀ p ∈ owedL.drop n, lvS (.reg barS) < lvS p.1) {q : Sem sig} (hq : q = barS) {w : ℕ} (hw : w = 3)
    {α : Type} {Q : α → sProp 𝕄} {kt : PUnit → Prog (TpuEff nD τ sig (Elt F) Λ₀ .tc) α} :
    ctx m ρ K ⊢ iprop(OW c n -∗ cred (tallyAt (barCell c) () 3) -∗ atPos ER (barCell c) 0 ∅ 0
        -∗ (OW c n -∗ atPos ER (barCell c) (0 + 1) ∅ 0 -∗ partSlots (F := F) c 0 -∗ partSlots (F := F) c 1 -∗ partSlots (F := F) c 2 -∗ WP c (kt ⟨⟩) Q)
        -∗ WP c (.op (.semWait q w) kt) Q) := by
  iintro #HC HO Hc Hat Hk
  iapply (wp_barwait m ρ K c barS n hm hq hw) $$ [$]
  iintro ⟨HO, Hat, Hp⟩
  have e : (bigSep Finset.univ fun r : Fin 3 => (Rd m ρ).payload (barCell c) 0 r)
      = iprop(partSlots (F := F) c 0 ∗ partSlots (F := F) c 1 ∗ partSlots (F := F) c 2) := by
    simp only [payload_bar]
    rw [bigSep_univ_eq_bigSepL [0, 1, 2] (by decide) (by decide), bigSepL_cons_cons, bigSepL_cons_cons, bigSepL_singleton]
    rfl
  ihave Hp := (Entails.of_eq e) $$ Hp
  icases Hp with ⟨H0, H1, H2⟩
  iapply Hk $$ HO Hat H0 H1 H2

theorem waitFin (n : ℕ) (hm : ∀ p ∈ owedL.drop n, lvS (.reg finS) < lvS p.1) {q : Sem sig} (hq : q = finS) {w : ℕ} (hw : w = 3)
    {α : Type} {Q : α → sProp 𝕄} {kt : PUnit → Prog (TpuEff nD τ sig (Elt F) Λ₀ .tc) α} :
    ctx m ρ K ⊢ iprop(OW c n -∗ cred (tallyAt (finCell c) () 3) -∗ atPos ER (finCell c) 0 ∅ 0
        -∗ (OW c n -∗ atPos ER (finCell c) (0 + 1) ∅ 0 -∗ WP c (kt ⟨⟩) Q)
        -∗ WP c (.op (.semWait q w) kt) Q) := by
  iintro #HC HO Hc Hat Hk
  iapply (wp_barwait m ρ K c finS n hm hq hw) $$ [$]
  iintro ⟨HO, Hat, -⟩
  iapply Hk $$ HO Hat

end Cert.KernelIdeal.Hyper
-- ==== Proof.KernelIdeal.Fill.lean ====
/-
# Filling the first slots, parts 2 to 11
-/
module

public import proofs.«01_k».proof.Proof.KernelIdeal.Common

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

theorem part2 (Xd00 : FVec F S1x1x8x1024 .f32) (Xn000 : FVec F S1x1x1x256x128 .bf16) {Kt} :
    IN m ρ c ⊢ iprop(SF c (.inl (0, 0, 0)) Xn000 -∗ SF c (.inr (0, 0)) Xd00
        -∗ (IN m ρ c -∗ SF c (.inl (0, 0, 0)) ((nP 0).overlay Xn000 (numH m ρ c 0 0)) -∗ SF c (.inr (0, 0)) ((dP 0).overlay Xd00 (denH m ρ c 0 0))
            -∗ Kt ⟨k0_pay4 (wq m ρ c) (ldx m ρ 0 c), k0_pay8 (wq m ρ c) (ldx m ρ 0 c)⟩)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 (mk c) (wq m ρ c) on8) Kt) := by
  rw [k0_part2_eq_skeleton]
  unfold k0_part2_skel
  simp only [Prog.lift, Prog.bind_op, Prog.bind_ret, Prog.pure_eq_ret, Prog.bind_assoc]
  iintro HI Sn000 Sd00 Hk
  iapply (wp_ldx m ρ c 0) $$ HI
  iintro HI
  iapply (wp_ldk m ρ c 0) $$ HI
  iintro HI
  iapply (wp_ldv m ρ c 0) $$ HI
  iintro HI
  iapply (wp_putN c (0, 0, 0) 0 (numH m ρ c 0 0) rfl) $$ Sn000
  iintro Sn000
  iapply (wp_putD c (0, 0) 0 (denH m ρ c 0 0) rfl) $$ Sd00
  iintro Sd00
  iapply (done c)
  iapply Hk $$ HI Sn000 Sd00

theorem part3 (v3 : BitVec 32) (Xd00 : FVec F S1x1x8x1024 .f32) (Xn000 : FVec F S1x1x1x256x128 .bf16) {Kt} :
    IN m ρ c ⊢ iprop(SF c (.inl (0, 0, 0)) ((nP 0).overlay Xn000 (numH m ρ c 0 0)) -∗ SF c (.inr (0, 0)) ((dP 0).overlay Xd00 (denH m ρ c 0 0))
        -∗ (∀ v86, IN m ρ c -∗ SF c (.inl (0, 0, 0)) (CT m ρ c (.inl (0, 0, 0))) -∗ SF c (.inr (0, 0)) ((dP 1).overlay ((dP 0).overlay Xd00 (denH m ρ c 0 0)) (denH m ρ c 0 1))
            -∗ Kt v86)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v3 (mk c) on8 (k0_pay8 (wq m ρ c) (ldx m ρ 0 c))) Kt) := by
  rw [k0_part3_eq_skeleton]
  unfold k0_part3_skel
  simp only [Prog.lift, Prog.bind_op, Prog.bind_ret, Prog.pure_eq_ret, Prog.bind_assoc]
  iintro HI Sn000 Sd00 Hk
  iapply (wp_ldk m ρ c 0) $$ HI
  iintro HI
  iapply (wp_ldv m ρ c 0) $$ HI
  iintro HI
  iapply (wp_putN c (0, 0, 0) 1 (numH m ρ c 0 1) rfl) $$ Sn000
  iintro Sn000
  ihave Sn000 := (fullN m ρ c 0 0 Xn000 0 1 rfl rfl) $$ Sn000
  iapply (wp_putD c (0, 0) 1 (denH m ρ c 0 1) rfl) $$ Sd00
  iintro Sd00
  iapply (done c)
  iapply Hk $$ %_ HI Sn000 Sd00

theorem part4 (v86 : BitVec 32) (Xn001 : FVec F S1x1x1x256x128 .bf16) {Kt} :
    ctx m ρ K ⊢ iprop(SF c (.inl (0, 0, 0)) (CT m ρ c (.inl (0, 0, 0))) -∗ DP c (.inl (0, 0, 0)) -∗ TS c (.inl (0, 0, 0)) -∗ OW c 3 -∗ IN m ρ c -∗ SF c (.inl (0, 0, 1)) Xn001
        -∗ (SR m ρ c (.inl (0, 0, 0)) -∗ SS c (.inl (0, 0, 0)) -∗ OW c 4 -∗ IN m ρ c -∗ SF c (.inl (0, 0, 1)) ((nP 0).overlay Xn001 (numH m ρ c 0 2))
            -∗ Kt (k0_pay14 (mk c) on8 (k0_pay4 (wq m ρ c) (ldx m ρ 0 c)) (ldk m ρ 0 c)))
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c (mk c) on8 (k0_pay4 (wq m ρ c) (ldx m ρ 0 c)) v86) Kt) := by
  rw [k0_part4_eq_skeleton]
  unfold k0_part4_skel
  simp only [Prog.lift, Prog.bind_op, Prog.bind_ret, Prog.pure_eq_ret, Prog.bind_assoc]
  iintro #HC Sn000 Pn000 Tn000 HO HI Sn001 Hk
  iapply (start m ρ K c (.inl (0, 0, 0)) (n := 3) rfl _ (by revert c; decide) rfl rfl rfl rfl) $$ HC Sn000 Pn000 Tn000 HO
  iintro Sn000 Tn000 HO
  iapply (wp_ldk m ρ c 0) $$ HI
  iintro HI
  iapply (wp_ldv m ρ c 0) $$ HI
  iintro HI
  iapply (wp_putN c (0, 0, 1) 0 (numH m ρ c 0 2) rfl) $$ Sn001
  iintro Sn001
  iapply (done c)
  iapply Hk $$ Sn000 Tn000 HO HI Sn001

theorem part5 (Xd00 : FVec F S1x1x8x1024 .f32) (Xn001 : FVec F S1x1x1x256x128 .bf16) {Kt} :
    SF c (.inr (0, 0)) ((dP 1).overlay ((dP 0).overlay Xd00 (denH m ρ c 0 0)) (denH m ρ c 0 1)) ⊢ iprop(IN m ρ c -∗ SF c (.inl (0, 0, 1)) ((nP 0).overlay Xn001 (numH m ρ c 0 2))
        -∗ (SF c (.inr (0, 0)) (CT m ρ c (.inr (0, 0))) -∗ IN m ρ c -∗ SF c (.inl (0, 0, 1)) (CT m ρ c (.inl (0, 0, 1)))
            -∗ Kt ⟨⟩)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 (mk c) on8 (k0_pay4 (wq m ρ c) (ldx m ρ 0 c)) (k0_pay14 (mk c) on8 (k0_pay4 (wq m ρ c) (ldx m ρ 0 c)) (ldk m ρ 0 c))) Kt) := by
  rw [k0_part5_eq_skeleton]
  unfold k0_part5_skel
  simp only [Prog.lift, Prog.bind_op, Prog.bind_ret, Prog.pure_eq_ret, Prog.bind_assoc]
  iintro Sd00 HI Sn001 Hk
  iapply (wp_putD c (0, 0) 2 (denH m ρ c 0 2) rfl) $$ Sd00
  iintro Sd00
  iapply (wp_ldk m ρ c 0) $$ HI
  iintro HI
  iapply (wp_ldv m ρ c 0) $$ HI
  iintro HI
  iapply (wp_putN c (0, 0, 1) 1 (numH m ρ c 0 3) rfl) $$ Sn001
  iintro Sn001
  ihave Sn001 := (fullN m ρ c 0 1 Xn001 2 3 rfl rfl) $$ Sn001
  iapply (wp_putD c (0, 0) 3 (denH m ρ c 0 3) rfl) $$ Sd00
  iintro Sd00
  ihave Sd00 := (fullD m ρ c 0 Xd00) $$ Sd00
  iapply (done c)
  iapply Hk $$ Sd00 HI Sn001

theorem part6 (v3 : BitVec 32) {Kt} :
    ctx m ρ K ⊢ iprop(SF c (.inl (0, 0, 1)) (CT m ρ c (.inl (0, 0, 1))) -∗ DP c (.inl (0, 0, 1)) -∗ TS c (.inl (0, 0, 1)) -∗ OW c 4 -∗ SF c (.inr (0, 0)) (CT m ρ c (.inr (0, 0))) -∗ DP c (.inr (0, 0)) -∗ TS c (.inr (0, 0)) -∗ IN m ρ c
        -∗ (SR m ρ c (.inl (0, 0, 1)) -∗ SS c (.inl (0, 0, 1)) -∗ OW c 6 -∗ SR m ρ c (.inr (0, 0)) -∗ SS c (.inr (0, 0)) -∗ IN m ρ c
            -∗ Kt ⟨k0_pay19 (wq m ρ c) (ldx m ρ 1 c), k0_pay20 (wq m ρ c) (ldx m ρ 1 c)⟩)
        -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v3 (wq m ρ c)) Kt) := by
  rw [k0_part6_eq_skeleton]
  unfold k0_part6_skel
  simp only [Prog.lift, Prog.bind_op, Prog.bind_ret, Prog.pure_eq_ret, Prog.bind_assoc]
  iintro #HC Sn001 Pn001 Tn001 HO Sd00 Pd00 Td00 HI Hk
  iapply (start m ρ K c (.inl (0, 0, 1)) (n := 4) rfl _ (by revert c; decide) rfl rfl rfl rfl) $$ HC Sn001 Pn001 Tn001 HO
  iintro Sn001 Tn001 HO
  iapply (start m ρ K c (.inr (0, 0)) (n := 5) rfl _ (by revert c; decide) rfl rfl rfl rfl) $$ HC Sd00 Pd00 Td00 HO
  iintro Sd00 Td00 HO
  iapply (wp_ldx m ρ c 1) $$ HI
  iintro HI
  iapply (done c)
  iapply Hk $$ Sn001 Tn001 HO Sd00 Td00 HI

theorem part7 (Xd01 : FVec F S1x1x8x1024 .f32) (Xn010 : FVec F S1x1x1x256x128 .bf16) {Kt} :
    IN m ρ c ⊢ iprop(SF c (.inl (0, 1, 0)) Xn010 -∗ SF c (.inr (0, 1)) Xd01
        -∗ (IN m ρ c -∗ SF c (.inl (0, 1, 0)) ((nP 0).overlay Xn010 (numH m ρ c 1 0)) -∗ SF c (.inr (0, 1)) ((dP 0).overlay Xd01 (denH m ρ c 1 0))
            -∗ Kt ⟨k0_pay24 (k0_pay19 (wq m ρ c) (ldx m ρ 1 c)) (ldk m ρ 1 c), k0_pay25⟩)
        -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 (mk c) on8 (k0_pay19 (wq m ρ c) (ldx m ρ 1 c)) (k0_pay20 (wq m ρ c) (ldx m ρ 1 c))) Kt) := by
  rw [k0_part7_eq_skeleton]
  unfold k0_part7_skel
  simp only [Prog.lift, Prog.bind_op, Prog.bind_ret, Prog.pure_eq_ret, Prog.bind_assoc]
  iintro HI Sn010 Sd01 Hk
  iapply (wp_ldk m ρ c 1) $$ HI
  iintro HI
  iapply (wp_ldv m ρ c 1) $$ HI
  iintro HI
  iapply (wp_putN c (0, 1, 0) 0 (numH m ρ c 1 0) rfl) $$ Sn010
  iintro Sn010
  iapply (wp_putD c (0, 1) 0 (denH m ρ c 1 0) rfl) $$ Sd01
  iintro Sd01
  iapply (wp_ldk m ρ c 1) $$ HI
  iintro HI
  iapply (done c)
  iapply Hk $$ HI Sn010 Sd01

theorem part8 (v3 : BitVec 32) (Xd01 : FVec F S1x1x8x1024 .f32) (Xn010 : FVec F S1x1x1x256x128 .bf16) {Kt} :
    IN m ρ c ⊢ iprop(SF c (.inl (0, 1, 0)) ((nP 0).overlay Xn010 (numH m ρ c 1 0)) -∗ SF c (.inr (0, 1)) ((dP 0).overlay Xd01 (denH m ρ c 1 0))
        -∗ (IN m ρ c -∗ SF c (.inl (0, 1, 0)) (CT m ρ c (.inl (0, 1, 0))) -∗ SF c (.inr (0, 1)) ((dP 1).overlay ((dP 0).overlay Xd01 (denH m ρ c 1 0)) (denH m ρ c 1 1))
            -∗ Kt ⟨⟩)
        -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v3 (mk c) on8 (k0_pay24 (k0_pay19 (wq m ρ c) (ldx m ρ 1 c)) (ldk m ρ 1 c)) k0_pay25) Kt) := by
  rw [k0_part8_eq_skeleton]
  unfold k0_part8_skel
  simp only [Prog.lift, Prog.bind_op, Prog.bind_ret, Prog.pure_eq_ret, Prog.bind_assoc]
  iintro HI Sn010 Sd01 Hk
  iapply (wp_ldv m ρ c 1) $$ HI
  iintro HI
  iapply (wp_putN c (0, 1, 0) 1 (numH m ρ c 1 1) rfl) $$ Sn010
  iintro Sn010
  ihave Sn010 := (fullN m ρ c 1 0 Xn010 0 1 rfl rfl) $$ Sn010
  iapply (wp_putD c (0, 1) 1 (denH m ρ c 1 1) rfl) $$ Sd01
  iintro Sd01
  iapply (done c)
  iapply Hk $$ HI Sn010 Sd01

theorem part9 (Xd01 : FVec F S1x1x8x1024 .f32) (Xn011 : FVec F S1x1x1x256x128 .bf16) {Kt} :
    ctx m ρ K ⊢ iprop(SF c (.inl (0, 1, 0)) (CT m ρ c (.inl (0, 1, 0))) -∗ DP c (.inl (0, 1, 0)) -∗ TS c (.inl (0, 1, 0)) -∗ OW c 6 -∗ IN m ρ c -∗ SF c (.inl (0, 1, 1)) Xn011 -∗ SF c (.inr (0, 1)) ((dP 1).overlay ((dP 0).overlay Xd01 (denH m ρ c 1 0)) (denH m ρ c 1 1))
        -∗ (SR m ρ c (.inl (0, 1, 0)) -∗ SS c (.inl (0, 1, 0)) -∗ OW c 7 -∗ IN m ρ c -∗ SF c (.inl (0, 1, 1)) ((nP 0).overlay Xn011 (numH m ρ c 1 2)) -∗ SF c (.inr (0, 1)) ((dP 2).overlay ((dP 1).overlay ((dP 0).overlay Xd01 (denH m ρ c 1 0)) (denH m ρ c 1 1)) (denH m ρ c 1 2))
            -∗ Kt (k0_pay32 (k0_pay19 (wq m ρ c) (ldx m ρ 1 c))))
        -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c (mk c) on8 (k0_pay19 (wq m ρ c) (ldx m ρ 1 c))) Kt) := by
  rw [k0_part9_eq_skeleton]
  unfold k0_part9_skel
  simp only [Prog.lift, Prog.bind_op, Prog.bind_ret, Prog.pure_eq_ret, Prog.bind_assoc]
  iintro #HC Sn010 Pn010 Tn010 HO HI Sn011 Sd01 Hk
  iapply (start m ρ K c (.inl (0, 1, 0)) (n := 6) rfl _ (by revert c; decide) rfl rfl rfl rfl) $$ HC Sn010 Pn010 Tn010 HO
  iintro Sn010 Tn010 HO
  iapply (wp_ldk m ρ c 1) $$ HI
  iintro HI
  iapply (wp_ldv m ρ c 1) $$ HI
  iintro HI
  iapply (wp_putN c (0, 1, 1) 0 (numH m ρ c 1 2) rfl) $$ Sn011
  iintro Sn011
  iapply (wp_putD c (0, 1) 2 (denH m ρ c 1 2) rfl) $$ Sd01
  iintro Sd01
  iapply (done c)
  iapply Hk $$ Sn010 Tn010 HO HI Sn011 Sd01

theorem part10 (v3 : BitVec 32) (Xd01 : FVec F S1x1x8x1024 .f32) (Xn011 : FVec F S1x1x1x256x128 .bf16) {Kt} :
    IN m ρ c ⊢ iprop(SF c (.inl (0, 1, 1)) ((nP 0).overlay Xn011 (numH m ρ c 1 2)) -∗ SF c (.inr (0, 1)) ((dP 2).overlay ((dP 1).overlay ((dP 0).overlay Xd01 (denH m ρ c 1 0)) (denH m ρ c 1 1)) (denH m ρ c 1 2))
        -∗ (∀ v285, IN m ρ c -∗ SF c (.inl (0, 1, 1)) (CT m ρ c (.inl (0, 1, 1))) -∗ SF c (.inr (0, 1)) (CT m ρ c (.inr (0, 1)))
            -∗ Kt ⟨v285, 0#32⟩)
        -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v3 (mk c) on8 (k0_pay32 (k0_pay19 (wq m ρ c) (ldx m ρ 1 c)))) Kt) := by
  rw [k0_part10_eq_skeleton]
  unfold k0_part10_skel
  simp only [Prog.lift, Prog.bind_op, Prog.bind_ret, Prog.pure_eq_ret, Prog.bind_assoc]
  iintro HI Sn011 Sd01 Hk
  iapply (wp_ldk m ρ c 1) $$ HI
  iintro HI
  iapply (wp_ldv m ρ c 1) $$ HI
  iintro HI
  iapply (wp_putN c (0, 1, 1) 1 (numH m ρ c 1 3) rfl) $$ Sn011
  iintro Sn011
  ihave Sn011 := (fullN m ρ c 1 1 Xn011 2 3 rfl rfl) $$ Sn011
  iapply (wp_putD c (0, 1) 3 (denH m ρ c 1 3) rfl) $$ Sd01
  iintro Sd01
  ihave Sd01 := (fullD m ρ c 1 Xd01) $$ Sd01
  iapply (done c)
  iapply Hk $$ %_ HI Sn011 Sd01

theorem part11 (v3 : BitVec 32) (v285 : BitVec 32) (c0_i32_272 : BitVec 32) {Kt} :
    ctx m ρ K ⊢ iprop(SF c (.inl (0, 1, 1)) (CT m ρ c (.inl (0, 1, 1))) -∗ DP c (.inl (0, 1, 1)) -∗ TS c (.inl (0, 1, 1)) -∗ OW c 7 -∗ SF c (.inr (0, 1)) (CT m ρ c (.inr (0, 1))) -∗ DP c (.inr (0, 1)) -∗ TS c (.inr (0, 1))
        -∗ (SR m ρ c (.inl (0, 1, 1)) -∗ SS c (.inl (0, 1, 1)) -∗ OW c 9 -∗ SR m ρ c (.inr (0, 1)) -∗ SS c (.inr (0, 1))
            -∗ Kt ⟨⟩)
        -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v3 v285 c0_i32_272) Kt) := by
  rw [k0_part11_eq_skeleton]
  unfold k0_part11_skel
  simp only [Prog.lift, Prog.bind_op, Prog.bind_ret, Prog.pure_eq_ret, Prog.bind_assoc]
  iintro #HC Sn011 Pn011 Tn011 HO Sd01 Pd01 Td01 Hk
  iapply (start m ρ K c (.inl (0, 1, 1)) (n := 7) rfl _ (by revert c; decide) rfl rfl rfl rfl) $$ HC Sn011 Pn011 Tn011 HO
  iintro Sn011 Tn011 HO
  iapply (start m ρ K c (.inr (0, 1)) (n := 8) rfl _ (by revert c; decide) rfl rfl rfl rfl) $$ HC Sd01 Pd01 Td01 HO
  iintro Sd01 Td01 HO
  iapply (done c)
  iapply Hk $$ Sn011 Tn011 HO Sd01 Td01

end Cert.KernelIdeal.Hyper
-- ==== Proof.KernelIdeal.Trade.lean ====
/-
# The rounds, parts 12 to 26
-/
module

public import proofs.«01_k».proof.Proof.KernelIdeal.Common

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

theorem part12 (v4 : BitVec 32) (Xn100 : FVec F S1x1x1x256x128 .bf16) {Kt} :
    ctx m ρ K ⊢ iprop(VV c (.inl (0, 0, 0)) -∗ OW c 9 -∗ SR m ρ c (.inl (0, 0, 0)) -∗ SF c (.inl (1, 0, 0)) Xn100 -∗ DP c (.inl (1, 0, 0)) -∗ TS c (.inl (1, 0, 0))
        -∗ (VD c (.inl (0, 0, 0)) -∗ OW c 10 -∗ RV m ρ c (.inl (0, 0, 0)) -∗ SR m ρ c (.inl (0, 0, 0)) -∗ SR m ρ c (.inl (1, 0, 0)) -∗ SS c (.inl (1, 0, 0))
            -∗ Kt ⟨⟩)
        -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4) Kt) := by
  rw [k0_part12_eq_skeleton]
  unfold k0_part12_skel
  simp only [Prog.lift, Prog.bind_op, Prog.bind_ret, Prog.pure_eq_ret, Prog.bind_assoc]
  iintro #HC Vn000 HO Sn000 Sn100 Pn100 Tn100 Hk
  iapply (recv m ρ K c (.inl (0, 0, 0)) 9 (by decide) rfl rfl rfl) $$ HC Vn000 HO
  iintro Rn000 Vn000 HO
  iapply (wp_ld c snM (nR (0, 0, 0)) (fun _ => rfl)) $$ Sn000
  iintro Sn000
  iapply (wp_ld c rnM (nR (0, 0, 0)) (fun _ => rfl)) $$ Rn000
  iintro Rn000
  iapply (putN m ρ c (1, 0, 0) rfl) $$ Sn100
  iintro Sn100
  iapply (start m ρ K c (.inl (1, 0, 0)) (n := 9) rfl _ (by revert c; decide) rfl rfl rfl rfl) $$ HC Sn100 Pn100 Tn100 HO
  iintro Sn100 Tn100 HO
  iapply (done c)
  iapply Hk $$ Vn000 HO Rn000 Sn000 Sn100 Tn100

theorem part13 (v3 : BitVec 32) (Xn101 : FVec F S1x1x1x256x128 .bf16) {Kt} :
    ctx m ρ K ⊢ iprop(VV c (.inl (0, 0, 1)) -∗ OW c 10 -∗ SR m ρ c (.inl (0, 0, 1)) -∗ SF c (.inl (1, 0, 1)) Xn101
        -∗ (VD c (.inl (0, 0, 1)) -∗ OW c 10 -∗ RV m ρ c (.inl (0, 0, 1)) -∗ SR m ρ c (.inl (0, 0, 1)) -∗ SF c (.inl (1, 0, 1)) (CT m ρ c (.inl (1, 0, 1)))
            -∗ Kt ⟨⟩)
        -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v3) Kt) := by
  rw [k0_part13_eq_skeleton]
  unfold k0_part13_skel
  simp only [Prog.lift, Prog.bind_op, Prog.bind_ret, Prog.pure_eq_ret, Prog.bind_assoc]
  iintro #HC Vn001 HO Sn001 Sn101 Hk
  iapply (recv m ρ K c (.inl (0, 0, 1)) 10 (by decide) rfl rfl rfl) $$ HC Vn001 HO
  iintro Rn001 Vn001 HO
  iapply (wp_ld c snM (nR (0, 0, 1)) (fun _ => rfl)) $$ Sn001
  iintro Sn001
  iapply (wp_ld c rnM (nR (0, 0, 1)) (fun _ => rfl)) $$ Rn001
  iintro Rn001
  iapply (putN m ρ c (1, 0, 1) rfl) $$ Sn101
  iintro Sn101
  iapply (done c)
  iapply Hk $$ Vn001 HO Rn001 Sn001 Sn101

theorem part14 (v3 : BitVec 32) (v4 : BitVec 32) (Xd10 : FVec F S1x1x8x1024 .f32) {Kt} :
    ctx m ρ K ⊢ iprop(SF c (.inl (1, 0, 1)) (CT m ρ c (.inl (1, 0, 1))) -∗ DP c (.inl (1, 0, 1)) -∗ TS c (.inl (1, 0, 1)) -∗ OW c 10 -∗ VV c (.inr (0, 0)) -∗ SR m ρ c (.inr (0, 0)) -∗ SF c (.inr (1, 0)) Xd10
        -∗ (∀ v370, SR m ρ c (.inl (1, 0, 1)) -∗ SS c (.inl (1, 0, 1)) -∗ OW c 11 -∗ VD c (.inr (0, 0)) -∗ RV m ρ c (.inr (0, 0)) -∗ SR m ρ c (.inr (0, 0)) -∗ SF c (.inr (1, 0)) Xd10
            -∗ Kt ⟨k0_pay38 (CT m ρ c (.inr (0, 0))) (CT m ρ (par (rd (.inr (0, 0))) c) (.inr (0, 0))), v370⟩)
        -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v3 v4) Kt) := by
  rw [k0_part14_eq_skeleton]
  unfold k0_part14_skel
  simp only [Prog.lift, Prog.bind_op, Prog.bind_ret, Prog.pure_eq_ret, Prog.bind_assoc]
  iintro #HC Sn101 Pn101 Tn101 HO Vd00 Sd00 Sd10 Hk
  iapply (start m ρ K c (.inl (1, 0, 1)) (n := 10) rfl _ (by revert c; decide) rfl rfl rfl rfl) $$ HC Sn101 Pn101 Tn101 HO
  iintro Sn101 Tn101 HO
  iapply (recv m ρ K c (.inr (0, 0)) 11 (by decide) rfl rfl rfl) $$ HC Vd00 HO
  iintro Rd00 Vd00 HO
  iapply (wp_ld c sdM (dR (0, 0)) (fun _ => rfl)) $$ Sd00
  iintro Sd00
  iapply (wp_ld c rdM (dR (0, 0)) (fun _ => rfl)) $$ Rd00
  iintro Rd00
  iapply (wp_ld_any c sdM (dR (1, 0)) (fun _ => rfl) (dR (1, 0)) (fun _ h => h)) $$ Sd10
  iintro %v370 Sd10
  iapply (done c)
  iapply Hk $$ %_ Sn101 Tn101 HO Vd00 Rd00 Sd00 Sd10

theorem part15 (v3 : BitVec 32) (v4 : BitVec 32) (v370 : Vec F S1x1x8x1024 .f32) (Xd10 : FVec F S1x1x8x1024 .f32) {Kt} :
    ctx m ρ K ⊢ iprop(SF c (.inr (1, 0)) Xd10 -∗ DP c (.inr (1, 0)) -∗ TS c (.inr (1, 0)) -∗ OW c 11 -∗ VV c (.inl (0, 1, 0))
        -∗ (SR m ρ c (.inr (1, 0)) -∗ SS c (.inr (1, 0)) -∗ OW c 12 -∗ VD c (.inl (0, 1, 0)) -∗ RV m ρ c (.inl (0, 1, 0))
            -∗ Kt ⟨⟩)
        -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v3 v4 (k0_pay38 (CT m ρ c (.inr (0, 0))) (CT m ρ (par (rd (.inr (0, 0))) c) (.inr (0, 0)))) v370) Kt) := by
  rw [k0_part15_eq_skeleton]
  unfold k0_part15_skel
  simp only [Prog.lift, Prog.bind_op, Prog.bind_ret, Prog.pure_eq_ret, Prog.bind_assoc]
  iintro #HC Sd10 Pd10 Td10 HO Vn010 Hk
  iapply (stD m ρ c (1, 0) rfl) $$ Sd10
  iintro Sd10
  iapply (start m ρ K c (.inr (1, 0)) (n := 11) rfl _ (by revert c; decide) rfl rfl rfl rfl) $$ HC Sd10 Pd10 Td10 HO
  iintro Sd10 Td10 HO
  iapply (recv m ρ K c (.inl (0, 1, 0)) 12 (by decide) rfl rfl rfl) $$ HC Vn010 HO
  iintro Rn010 Vn010 HO
  iapply (done c)
  iapply Hk $$ Sd10 Td10 HO Vn010 Rn010

theorem part16 (v4 : BitVec 32) (Xn110 : FVec F S1x1x1x256x128 .bf16) {Kt} :
    ctx m ρ K ⊢ iprop(SR m ρ c (.inl (0, 1, 0)) -∗ RV m ρ c (.inl (0, 1, 0)) -∗ SF c (.inl (1, 1, 0)) Xn110 -∗ DP c (.inl (1, 1, 0)) -∗ TS c (.inl (1, 1, 0)) -∗ OW c 12
        -∗ (SR m ρ c (.inl (0, 1, 0)) -∗ RV m ρ c (.inl (0, 1, 0)) -∗ SR m ρ c (.inl (1, 1, 0)) -∗ SS c (.inl (1, 1, 0)) -∗ OW c 13
            -∗ Kt ⟨⟩)
        -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4) Kt) := by
  rw [k0_part16_eq_skeleton]
  unfold k0_part16_skel
  simp only [Prog.lift, Prog.bind_op, Prog.bind_ret, Prog.pure_eq_ret, Prog.bind_assoc]
  iintro #HC Sn010 Rn010 Sn110 Pn110 Tn110 HO Hk
  iapply (wp_ld c snM (nR (0, 1, 0)) (fun _ => rfl)) $$ Sn010
  iintro Sn010
  iapply (wp_ld c rnM (nR (0, 1, 0)) (fun _ => rfl)) $$ Rn010
  iintro Rn010
  iapply (putN m ρ c (1, 1, 0) rfl) $$ Sn110
  iintro Sn110
  iapply (start m ρ K c (.inl (1, 1, 0)) (n := 12) rfl _ (by revert c; decide) rfl rfl rfl rfl) $$ HC Sn110 Pn110 Tn110 HO
  iintro Sn110 Tn110 HO
  iapply (done c)
  iapply Hk $$ Sn010 Rn010 Sn110 Tn110 HO

theorem part17 (v3 : BitVec 32) (v4 : BitVec 32) (Xn111 : FVec F S1x1x1x256x128 .bf16) {Kt} :
    ctx m ρ K ⊢ iprop(VV c (.inl (0, 1, 1)) -∗ OW c 13 -∗ SR m ρ c (.inl (0, 1, 1)) -∗ SF c (.inl (1, 1, 1)) Xn111
        -∗ (VD c (.inl (0, 1, 1)) -∗ OW c 13 -∗ RV m ρ c (.inl (0, 1, 1)) -∗ SR m ρ c (.inl (0, 1, 1)) -∗ SF c (.inl (1, 1, 1)) (CT m ρ c (.inl (1, 1, 1)))
            -∗ Kt ⟨⟩)
        -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v3 v4) Kt) := by
  rw [k0_part17_eq_skeleton]
  unfold k0_part17_skel
  simp only [Prog.lift, Prog.bind_op, Prog.bind_ret, Prog.pure_eq_ret, Prog.bind_assoc]
  iintro #HC Vn011 HO Sn011 Sn111 Hk
  iapply (recv m ρ K c (.inl (0, 1, 1)) 13 (by decide) rfl rfl rfl) $$ HC Vn011 HO
  iintro Rn011 Vn011 HO
  iapply (wp_ld c snM (nR (0, 1, 1)) (fun _ => rfl)) $$ Sn011
  iintro Sn011
  iapply (wp_ld c rnM (nR (0, 1, 1)) (fun _ => rfl)) $$ Rn011
  iintro Rn011
  iapply (putN m ρ c (1, 1, 1) rfl) $$ Sn111
  iintro Sn111
  iapply (done c)
  iapply Hk $$ Vn011 HO Rn011 Sn011 Sn111

theorem part18 (v3 : BitVec 32) (Xd11 : FVec F S1x1x8x1024 .f32) {Kt} :
    ctx m ρ K ⊢ iprop(SF c (.inl (1, 1, 1)) (CT m ρ c (.inl (1, 1, 1))) -∗ DP c (.inl (1, 1, 1)) -∗ TS c (.inl (1, 1, 1)) -∗ OW c 13 -∗ VV c (.inr (0, 1)) -∗ SR m ρ c (.inr (0, 1)) -∗ SF c (.inr (1, 1)) Xd11
        -∗ (SR m ρ c (.inl (1, 1, 1)) -∗ SS c (.inl (1, 1, 1)) -∗ OW c 14 -∗ VD c (.inr (0, 1)) -∗ RV m ρ c (.inr (0, 1)) -∗ SR m ρ c (.inr (0, 1)) -∗ SF c (.inr (1, 1)) (CT m ρ c (.inr (1, 1)))
            -∗ Kt ⟨⟩)
        -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v3) Kt) := by
  rw [k0_part18_eq_skeleton]
  unfold k0_part18_skel
  simp only [Prog.lift, Prog.bind_op, Prog.bind_ret, Prog.pure_eq_ret, Prog.bind_assoc]
  iintro #HC Sn111 Pn111 Tn111 HO Vd01 Sd01 Sd11 Hk
  iapply (start m ρ K c (.inl (1, 1, 1)) (n := 13) rfl _ (by revert c; decide) rfl rfl rfl rfl) $$ HC Sn111 Pn111 Tn111 HO
  iintro Sn111 Tn111 HO
  iapply (recv m ρ K c (.inr (0, 1)) 14 (by decide) rfl rfl rfl) $$ HC Vd01 HO
  iintro Rd01 Vd01 HO
  iapply (wp_ld c sdM (dR (0, 1)) (fun _ => rfl)) $$ Sd01
  iintro Sd01
  iapply (wp_ld c rdM (dR (0, 1)) (fun _ => rfl)) $$ Rd01
  iintro Rd01
  iapply (putD m ρ c (1, 1) rfl) $$ Sd11
  iintro Sd11
  iapply (done c)
  iapply Hk $$ Sn111 Tn111 HO Vd01 Rd01 Sd01 Sd11

theorem part19 (v4 : BitVec 32) {Kt} :
    ctx m ρ K ⊢ iprop(SF c (.inr (1, 1)) (CT m ρ c (.inr (1, 1))) -∗ DP c (.inr (1, 1)) -∗ TS c (.inr (1, 1)) -∗ OW c 14 -∗ VV c (.inl (1, 0, 0)) -∗ SR m ρ c (.inl (1, 0, 0))
        -∗ (SR m ρ c (.inr (1, 1)) -∗ SS c (.inr (1, 1)) -∗ OW c 15 -∗ VD c (.inl (1, 0, 0)) -∗ RV m ρ c (.inl (1, 0, 0)) -∗ SR m ρ c (.inl (1, 0, 0))
            -∗ Kt (k0_pay43 (CT m ρ c (.inl (1, 0, 0))) (CT m ρ (par (rd (.inl (1, 0, 0))) c) (.inl (1, 0, 0)))))
        -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4) Kt) := by
  rw [k0_part19_eq_skeleton]
  unfold k0_part19_skel
  simp only [Prog.lift, Prog.bind_op, Prog.bind_ret, Prog.pure_eq_ret, Prog.bind_assoc]
  iintro #HC Sd11 Pd11 Td11 HO Vn100 Sn100 Hk
  iapply (start m ρ K c (.inr (1, 1)) (n := 14) rfl _ (by revert c; decide) rfl rfl rfl rfl) $$ HC Sd11 Pd11 Td11 HO
  iintro Sd11 Td11 HO
  iapply (recv m ρ K c (.inl (1, 0, 0)) 15 (by decide) rfl rfl rfl) $$ HC Vn100 HO
  iintro Rn100 Vn100 HO
  iapply (wp_ld c snM (nR (1, 0, 0)) (fun _ => rfl)) $$ Sn100
  iintro Sn100
  iapply (wp_ld c rnM (nR (1, 0, 0)) (fun _ => rfl)) $$ Rn100
  iintro Rn100
  iapply (done c)
  iapply Hk $$ Sd11 Td11 HO Vn100 Rn100 Sn100

theorem part20 (v4 : BitVec 32) (v5 : BitVec 32) (Xn200 : FVec F S1x1x1x256x128 .bf16) {Kt} :
    ctx m ρ K ⊢ iprop(SF c (.inl (2, 0, 0)) Xn200 -∗ DP c (.inl (2, 0, 0)) -∗ TS c (.inl (2, 0, 0)) -∗ OW c 15
        -∗ (SR m ρ c (.inl (2, 0, 0)) -∗ SS c (.inl (2, 0, 0)) -∗ OW c 16
            -∗ Kt ⟨⟩)
        -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4 v5 (k0_pay43 (CT m ρ c (.inl (1, 0, 0))) (CT m ρ (par (rd (.inl (1, 0, 0))) c) (.inl (1, 0, 0))))) Kt) := by
  rw [k0_part20_eq_skeleton]
  unfold k0_part20_skel
  simp only [Prog.lift, Prog.bind_op, Prog.bind_ret, Prog.pure_eq_ret, Prog.bind_assoc]
  iintro #HC Sn200 Pn200 Tn200 HO Hk
  iapply (putN m ρ c (2, 0, 0) rfl) $$ Sn200
  iintro Sn200
  iapply (start m ρ K c (.inl (2, 0, 0)) (n := 15) rfl _ (by revert c; decide) rfl rfl rfl rfl) $$ HC Sn200 Pn200 Tn200 HO
  iintro Sn200 Tn200 HO
  iapply (done c)
  iapply Hk $$ Sn200 Tn200 HO

theorem part21 (v5 : BitVec 32) (Xn201 : FVec F S1x1x1x256x128 .bf16) {Kt} :
    ctx m ρ K ⊢ iprop(VV c (.inl (1, 0, 1)) -∗ OW c 16 -∗ SR m ρ c (.inl (1, 0, 1)) -∗ SF c (.inl (2, 0, 1)) Xn201 -∗ DP c (.inl (2, 0, 1)) -∗ TS c (.inl (2, 0, 1))
        -∗ (VD c (.inl (1, 0, 1)) -∗ OW c 17 -∗ RV m ρ c (.inl (1, 0, 1)) -∗ SR m ρ c (.inl (1, 0, 1)) -∗ SR m ρ c (.inl (2, 0, 1)) -∗ SS c (.inl (2, 0, 1))
            -∗ Kt ⟨⟩)
        -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v5) Kt) := by
  rw [k0_part21_eq_skeleton]
  unfold k0_part21_skel
  simp only [Prog.lift, Prog.bind_op, Prog.bind_ret, Prog.pure_eq_ret, Prog.bind_assoc]
  iintro #HC Vn101 HO Sn101 Sn201 Pn201 Tn201 Hk
  iapply (recv m ρ K c (.inl (1, 0, 1)) 16 (by decide) rfl rfl rfl) $$ HC Vn101 HO
  iintro Rn101 Vn101 HO
  iapply (wp_ld c snM (nR (1, 0, 1)) (fun _ => rfl)) $$ Sn101
  iintro Sn101
  iapply (wp_ld c rnM (nR (1, 0, 1)) (fun _ => rfl)) $$ Rn101
  iintro Rn101
  iapply (putN m ρ c (2, 0, 1) rfl) $$ Sn201
  iintro Sn201
  iapply (start m ρ K c (.inl (2, 0, 1)) (n := 16) rfl _ (by revert c; decide) rfl rfl rfl rfl) $$ HC Sn201 Pn201 Tn201 HO
  iintro Sn201 Tn201 HO
  iapply (done c)
  iapply Hk $$ Vn101 HO Rn101 Sn101 Sn201 Tn201

theorem part22 (v4 : BitVec 32) (v5 : BitVec 32) (Xd20 : FVec F S1x1x8x1024 .f32) {Kt} :
    ctx m ρ K ⊢ iprop(VV c (.inr (1, 0)) -∗ OW c 17 -∗ SR m ρ c (.inr (1, 0)) -∗ SF c (.inr (2, 0)) Xd20
        -∗ (VD c (.inr (1, 0)) -∗ OW c 17 -∗ RV m ρ c (.inr (1, 0)) -∗ SR m ρ c (.inr (1, 0)) -∗ SF c (.inr (2, 0)) (CT m ρ c (.inr (2, 0)))
            -∗ Kt ⟨⟩)
        -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v4 v5) Kt) := by
  rw [k0_part22_eq_skeleton]
  unfold k0_part22_skel
  simp only [Prog.lift, Prog.bind_op, Prog.bind_ret, Prog.pure_eq_ret, Prog.bind_assoc]
  iintro #HC Vd10 HO Sd10 Sd20 Hk
  iapply (recv m ρ K c (.inr (1, 0)) 17 (by decide) rfl rfl rfl) $$ HC Vd10 HO
  iintro Rd10 Vd10 HO
  iapply (wp_ld c sdM (dR (1, 0)) (fun _ => rfl)) $$ Sd10
  iintro Sd10
  iapply (wp_ld c rdM (dR (1, 0)) (fun _ => rfl)) $$ Rd10
  iintro Rd10
  iapply (putD m ρ c (2, 0) rfl) $$ Sd20
  iintro Sd20
  iapply (done c)
  iapply Hk $$ Vd10 HO Rd10 Sd10 Sd20

theorem part23 (v4 : BitVec 32) (Xn210 : FVec F S1x1x1x256x128 .bf16) {Kt} :
    ctx m ρ K ⊢ iprop(SF c (.inr (2, 0)) (CT m ρ c (.inr (2, 0))) -∗ DP c (.inr (2, 0)) -∗ TS c (.inr (2, 0)) -∗ OW c 17 -∗ VV c (.inl (1, 1, 0)) -∗ SR m ρ c (.inl (1, 1, 0)) -∗ SF c (.inl (2, 1, 0)) Xn210
        -∗ (SR m ρ c (.inr (2, 0)) -∗ SS c (.inr (2, 0)) -∗ OW c 18 -∗ VD c (.inl (1, 1, 0)) -∗ RV m ρ c (.inl (1, 1, 0)) -∗ SR m ρ c (.inl (1, 1, 0)) -∗ SF c (.inl (2, 1, 0)) (CT m ρ c (.inl (2, 1, 0)))
            -∗ Kt ⟨⟩)
        -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4) Kt) := by
  rw [k0_part23_eq_skeleton]
  unfold k0_part23_skel
  simp only [Prog.lift, Prog.bind_op, Prog.bind_ret, Prog.pure_eq_ret, Prog.bind_assoc]
  iintro #HC Sd20 Pd20 Td20 HO Vn110 Sn110 Sn210 Hk
  iapply (start m ρ K c (.inr (2, 0)) (n := 17) rfl _ (by revert c; decide) rfl rfl rfl rfl) $$ HC Sd20 Pd20 Td20 HO
  iintro Sd20 Td20 HO
  iapply (recv m ρ K c (.inl (1, 1, 0)) 18 (by decide) rfl rfl rfl) $$ HC Vn110 HO
  iintro Rn110 Vn110 HO
  iapply (wp_ld c snM (nR (1, 1, 0)) (fun _ => rfl)) $$ Sn110
  iintro Sn110
  iapply (wp_ld c rnM (nR (1, 1, 0)) (fun _ => rfl)) $$ Rn110
  iintro Rn110
  iapply (putN m ρ c (2, 1, 0) rfl) $$ Sn210
  iintro Sn210
  iapply (done c)
  iapply Hk $$ Sd20 Td20 HO Vn110 Rn110 Sn110 Sn210

theorem part24 (v4 : BitVec 32) (v5 : BitVec 32) {Kt} :
    ctx m ρ K ⊢ iprop(SF c (.inl (2, 1, 0)) (CT m ρ c (.inl (2, 1, 0))) -∗ DP c (.inl (2, 1, 0)) -∗ TS c (.inl (2, 1, 0)) -∗ OW c 18 -∗ VV c (.inl (1, 1, 1)) -∗ SR m ρ c (.inl (1, 1, 1))
        -∗ (SR m ρ c (.inl (2, 1, 0)) -∗ SS c (.inl (2, 1, 0)) -∗ OW c 19 -∗ VD c (.inl (1, 1, 1)) -∗ RV m ρ c (.inl (1, 1, 1)) -∗ SR m ρ c (.inl (1, 1, 1))
            -∗ Kt (k0_pay48 (CT m ρ c (.inl (1, 1, 1)))))
        -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4 v5) Kt) := by
  rw [k0_part24_eq_skeleton]
  unfold k0_part24_skel
  simp only [Prog.lift, Prog.bind_op, Prog.bind_ret, Prog.pure_eq_ret, Prog.bind_assoc]
  iintro #HC Sn210 Pn210 Tn210 HO Vn111 Sn111 Hk
  iapply (start m ρ K c (.inl (2, 1, 0)) (n := 18) rfl _ (by revert c; decide) rfl rfl rfl rfl) $$ HC Sn210 Pn210 Tn210 HO
  iintro Sn210 Tn210 HO
  iapply (recv m ρ K c (.inl (1, 1, 1)) 19 (by decide) rfl rfl rfl) $$ HC Vn111 HO
  iintro Rn111 Vn111 HO
  iapply (wp_ld c snM (nR (1, 1, 1)) (fun _ => rfl)) $$ Sn111
  iintro Sn111
  iapply (done c)
  iapply Hk $$ Sn210 Tn210 HO Vn111 Rn111 Sn111

theorem part25 (v4 : BitVec 32) (v5 : BitVec 32) (Xn211 : FVec F S1x1x1x256x128 .bf16) {Kt} :
    ctx m ρ K ⊢ iprop(RV m ρ c (.inl (1, 1, 1)) -∗ SF c (.inl (2, 1, 1)) Xn211 -∗ DP c (.inl (2, 1, 1)) -∗ TS c (.inl (2, 1, 1)) -∗ OW c 19
        -∗ (RV m ρ c (.inl (1, 1, 1)) -∗ SR m ρ c (.inl (2, 1, 1)) -∗ SS c (.inl (2, 1, 1)) -∗ OW c 20
            -∗ Kt ⟨⟩)
        -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v4 v5 (k0_pay48 (CT m ρ c (.inl (1, 1, 1))))) Kt) := by
  rw [k0_part25_eq_skeleton]
  unfold k0_part25_skel
  simp only [Prog.lift, Prog.bind_op, Prog.bind_ret, Prog.pure_eq_ret, Prog.bind_assoc]
  iintro #HC Rn111 Sn211 Pn211 Tn211 HO Hk
  iapply (wp_ld c rnM (nR (1, 1, 1)) (fun _ => rfl)) $$ Rn111
  iintro Rn111
  iapply (putN m ρ c (2, 1, 1) rfl) $$ Sn211
  iintro Sn211
  iapply (start m ρ K c (.inl (2, 1, 1)) (n := 19) rfl _ (by revert c; decide) rfl rfl rfl rfl) $$ HC Sn211 Pn211 Tn211 HO
  iintro Sn211 Tn211 HO
  iapply (done c)
  iapply Hk $$ Rn111 Sn211 Tn211 HO

theorem part26 (v5 : BitVec 32) (Xd21 : FVec F S1x1x8x1024 .f32) {Kt} :
    ctx m ρ K ⊢ iprop(VV c (.inr (1, 1)) -∗ OW c 20 -∗ SR m ρ c (.inr (1, 1)) -∗ SF c (.inr (2, 1)) Xd21 -∗ DP c (.inr (2, 1)) -∗ TS c (.inr (2, 1)) -∗ IN m ρ c
        -∗ (VD c (.inr (1, 1)) -∗ OW c 21 -∗ RV m ρ c (.inr (1, 1)) -∗ SR m ρ c (.inr (1, 1)) -∗ SR m ρ c (.inr (2, 1)) -∗ SS c (.inr (2, 1)) -∗ IN m ρ c
            -∗ Kt (k0_pay51 (ldwo m ρ c)))
        -∗ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 c v5) Kt) := by
  rw [k0_part26_eq_skeleton]
  unfold k0_part26_skel
  simp only [Prog.lift, Prog.bind_op, Prog.bind_ret, Prog.pure_eq_ret, Prog.bind_assoc]
  iintro #HC Vd11 HO Sd11 Sd21 Pd21 Td21 HI Hk
  iapply (recv m ρ K c (.inr (1, 1)) 20 (by decide) rfl rfl rfl) $$ HC Vd11 HO
  iintro Rd11 Vd11 HO
  iapply (wp_ld c sdM (dR (1, 1)) (fun _ => rfl)) $$ Sd11
  iintro Sd11
  iapply (wp_ld c rdM (dR (1, 1)) (fun _ => rfl)) $$ Rd11
  iintro Rd11
  iapply (putD m ρ c (2, 1) rfl) $$ Sd21
  iintro Sd21
  iapply (start m ρ K c (.inr (2, 1)) (n := 20) rfl _ (by revert c; decide) rfl rfl rfl rfl) $$ HC Sd21 Pd21 Td21 HO
  iintro Sd21 Td21 HO
  iapply (wp_ldwo m ρ c) $$ HI
  iintro HI
  iapply (done c)
  iapply Hk $$ Vd11 HO Rd11 Sd11 Sd21 Td21 HI

end Cert.KernelIdeal.Hyper
-- ==== Proof.KernelIdeal.Tail.lean ====
/-
# The results and the waits for what was sent, parts 27 to 38
-/
module

public import proofs.«01_k».proof.Proof.KernelIdeal.Common

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

theorem part27 (v5 : BitVec 32) {Kt} :
    ctx m ρ K ⊢ iprop(VV c (.inr (2, 0)) -∗ OW c 21 -∗ SR m ρ c (.inr (2, 0))
        -∗ (VD c (.inr (2, 0)) -∗ OW c 21 -∗ RV m ρ c (.inr (2, 0)) -∗ SR m ρ c (.inr (2, 0))
            -∗ Kt (k0_pay52 (CT m ρ c (.inr (2, 0))) (CT m ρ (par (rd (.inr (2, 0))) c) (.inr (2, 0)))))
        -∗ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v5) Kt) := by
  rw [k0_part27_eq_skeleton]
  unfold k0_part27_skel
  simp only [Prog.lift, Prog.bind_op, Prog.bind_ret, Prog.pure_eq_ret, Prog.bind_assoc]
  iintro #HC Vd20 HO Sd20 Hk
  iapply (recv m ρ K c (.inr (2, 0)) 21 (by decide) rfl rfl rfl) $$ HC Vd20 HO
  iintro Rd20 Vd20 HO
  iapply (wp_ld c sdM (dR (2, 0)) (fun _ => rfl)) $$ Sd20
  iintro Sd20
  iapply (wp_ld c rdM (dR (2, 0)) (fun _ => rfl)) $$ Rd20
  iintro Rd20
  iapply (done c)
  iapply Hk $$ Vd20 HO Rd20 Sd20

theorem part28 (v5 : BitVec 32) {Kt} :
    ctx m ρ K ⊢ iprop(VV c (.inl (2, 0, 0)) -∗ OW c 21 -∗ SR m ρ c (.inl (2, 0, 0))
        -∗ (VD c (.inl (2, 0, 0)) -∗ OW c 21 -∗ RV m ρ c (.inl (2, 0, 0)) -∗ SR m ρ c (.inl (2, 0, 0))
            -∗ Kt ⟨k0_pay54 (k0_pay52 (CT m ρ c (.inr (2, 0))) (CT m ρ (par (rd (.inr (2, 0))) c) (.inr (2, 0)))) (CT m ρ c (.inl (2, 0, 0))) (CT m ρ (par (rd (.inl (2, 0, 0))) c) (.inl (2, 0, 0))), k0_pay55 (k0_pay52 (CT m ρ c (.inr (2, 0))) (CT m ρ (par (rd (.inr (2, 0))) c) (.inr (2, 0)))) (CT m ρ c (.inl (2, 0, 0))) (CT m ρ (par (rd (.inl (2, 0, 0))) c) (.inl (2, 0, 0)))⟩)
        -∗ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v5 (k0_pay52 (CT m ρ c (.inr (2, 0))) (CT m ρ (par (rd (.inr (2, 0))) c) (.inr (2, 0))))) Kt) := by
  rw [k0_part28_eq_skeleton]
  unfold k0_part28_skel
  simp only [Prog.lift, Prog.bind_op, Prog.bind_ret, Prog.pure_eq_ret, Prog.bind_assoc]
  iintro #HC Vn200 HO Sn200 Hk
  iapply (recv m ρ K c (.inl (2, 0, 0)) 21 (by decide) rfl rfl rfl) $$ HC Vn200 HO
  iintro Rn200 Vn200 HO
  iapply (wp_ld c snM (nR (2, 0, 0)) (fun _ => rfl)) $$ Sn200
  iintro Sn200
  iapply (wp_ld c rnM (nR (2, 0, 0)) (fun _ => rfl)) $$ Rn200
  iintro Rn200
  iapply (done c)
  iapply Hk $$ Vn200 HO Rn200 Sn200

theorem part29 (v5 : BitVec 32) (U : FVec F S2x256x512 .f32) {Kt} :
    ctx m ρ K ⊢ iprop(VV c (.inl (2, 0, 1)) -∗ OW c 21 -∗ SR m ρ c (.inl (2, 0, 1)) -∗ OU c U
        -∗ (VD c (.inl (2, 0, 1)) -∗ OW c 21 -∗ RV m ρ c (.inl (2, 0, 1)) -∗ SR m ρ c (.inl (2, 0, 1)) -∗ OU c ((xR 0).overlay U (o0 m ρ c))
            -∗ Kt ⟨⟩)
        -∗ WP c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v5 (k0_pay51 (ldwo m ρ c)) (k0_pay52 (CT m ρ c (.inr (2, 0))) (CT m ρ (par (rd (.inr (2, 0))) c) (.inr (2, 0)))) (k0_pay54 (k0_pay52 (CT m ρ c (.inr (2, 0))) (CT m ρ (par (rd (.inr (2, 0))) c) (.inr (2, 0)))) (CT m ρ c (.inl (2, 0, 0))) (CT m ρ (par (rd (.inl (2, 0, 0))) c) (.inl (2, 0, 0)))) (k0_pay55 (k0_pay52 (CT m ρ c (.inr (2, 0))) (CT m ρ (par (rd (.inr (2, 0))) c) (.inr (2, 0)))) (CT m ρ c (.inl (2, 0, 0))) (CT m ρ (par (rd (.inl (2, 0, 0))) c) (.inl (2, 0, 0))))) Kt) := by
  rw [k0_part29_eq_skeleton]
  unfold k0_part29_skel
  simp only [Prog.lift, Prog.bind_op, Prog.bind_ret, Prog.pure_eq_ret, Prog.bind_assoc]
  iintro #HC Vn201 HO Sn201 HU Hk
  iapply (recv m ρ K c (.inl (2, 0, 1)) 21 (by decide) rfl rfl rfl) $$ HC Vn201 HO
  iintro Rn201 Vn201 HO
  iapply (wp_ld c snM (nR (2, 0, 1)) (fun _ => rfl)) $$ Sn201
  iintro Sn201
  iapply (wp_ld c rnM (nR (2, 0, 1)) (fun _ => rfl)) $$ Rn201
  iintro Rn201
  iapply (putO c 0 (o0 m ρ c) rfl) $$ HU
  iintro HU
  iapply (done c)
  iapply Hk $$ Vn201 HO Rn201 Sn201 HU

theorem part30 (v5 : BitVec 32) {Kt} :
    ctx m ρ K ⊢ iprop(VV c (.inr (2, 1)) -∗ OW c 21 -∗ SR m ρ c (.inr (2, 1)) -∗ VV c (.inl (2, 1, 0)) -∗ SR m ρ c (.inl (2, 1, 0))
        -∗ (VD c (.inr (2, 1)) -∗ OW c 21 -∗ RV m ρ c (.inr (2, 1)) -∗ SR m ρ c (.inr (2, 1)) -∗ VD c (.inl (2, 1, 0)) -∗ RV m ρ c (.inl (2, 1, 0)) -∗ SR m ρ c (.inl (2, 1, 0))
            -∗ Kt ⟨k0_pay57 (CT m ρ c (.inr (2, 1))) (CT m ρ (par (rd (.inr (2, 1))) c) (.inr (2, 1))), k0_pay58 (CT m ρ c (.inl (2, 1, 0)))⟩)
        -∗ WP c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v5) Kt) := by
  rw [k0_part30_eq_skeleton]
  unfold k0_part30_skel
  simp only [Prog.lift, Prog.bind_op, Prog.bind_ret, Prog.pure_eq_ret, Prog.bind_assoc]
  iintro #HC Vd21 HO Sd21 Vn210 Sn210 Hk
  iapply (recv m ρ K c (.inr (2, 1)) 21 (by decide) rfl rfl rfl) $$ HC Vd21 HO
  iintro Rd21 Vd21 HO
  iapply (wp_ld c sdM (dR (2, 1)) (fun _ => rfl)) $$ Sd21
  iintro Sd21
  iapply (wp_ld c rdM (dR (2, 1)) (fun _ => rfl)) $$ Rd21
  iintro Rd21
  iapply (recv m ρ K c (.inl (2, 1, 0)) 21 (by decide) rfl rfl rfl) $$ HC Vn210 HO
  iintro Rn210 Vn210 HO
  iapply (wp_ld c snM (nR (2, 1, 0)) (fun _ => rfl)) $$ Sn210
  iintro Sn210
  iapply (done c)
  iapply Hk $$ Vd21 HO Rd21 Sd21 Vn210 Rn210 Sn210

theorem part31 (v5 : BitVec 32) {Kt} :
    ctx m ρ K ⊢ iprop(RV m ρ c (.inl (2, 1, 0)) -∗ VV c (.inl (2, 1, 1)) -∗ OW c 21 -∗ SR m ρ c (.inl (2, 1, 1))
        -∗ (RV m ρ c (.inl (2, 1, 0)) -∗ VD c (.inl (2, 1, 1)) -∗ OW c 21 -∗ RV m ρ c (.inl (2, 1, 1)) -∗ SR m ρ c (.inl (2, 1, 1))
            -∗ Kt ⟨k0_pay60 (k0_pay57 (CT m ρ c (.inr (2, 1))) (CT m ρ (par (rd (.inr (2, 1))) c) (.inr (2, 1)))) (k0_pay58 (CT m ρ c (.inl (2, 1, 0)))) (CT m ρ (par (rd (.inl (2, 1, 0))) c) (.inl (2, 1, 0))), k0_pay61 (k0_pay57 (CT m ρ c (.inr (2, 1))) (CT m ρ (par (rd (.inr (2, 1))) c) (.inr (2, 1)))) (k0_pay58 (CT m ρ c (.inl (2, 1, 0)))) (CT m ρ (par (rd (.inl (2, 1, 0))) c) (.inl (2, 1, 0))), k0_pay62 (CT m ρ c (.inl (2, 1, 1)))⟩)
        -∗ WP c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 v5 (k0_pay57 (CT m ρ c (.inr (2, 1))) (CT m ρ (par (rd (.inr (2, 1))) c) (.inr (2, 1)))) (k0_pay58 (CT m ρ c (.inl (2, 1, 0))))) Kt) := by
  rw [k0_part31_eq_skeleton]
  unfold k0_part31_skel
  simp only [Prog.lift, Prog.bind_op, Prog.bind_ret, Prog.pure_eq_ret, Prog.bind_assoc]
  iintro #HC Rn210 Vn211 HO Sn211 Hk
  iapply (wp_ld c rnM (nR (2, 1, 0)) (fun _ => rfl)) $$ Rn210
  iintro Rn210
  iapply (recv m ρ K c (.inl (2, 1, 1)) 21 (by decide) rfl rfl rfl) $$ HC Vn211 HO
  iintro Rn211 Vn211 HO
  iapply (wp_ld c snM (nR (2, 1, 1)) (fun _ => rfl)) $$ Sn211
  iintro Sn211
  iapply (done c)
  iapply Hk $$ Rn210 Vn211 HO Rn211 Sn211

theorem part32 (U : FVec F S2x256x512 .f32) {Kt} :
    ctx m ρ K ⊢ iprop(RV m ρ c (.inl (2, 1, 1)) -∗ OU c ((xR 0).overlay U (o0 m ρ c)) -∗ SS c (.inl (0, 0, 0)) -∗ SR m ρ c (.inl (0, 0, 0)) -∗ OW c 21
        -∗ (RV m ρ c (.inl (2, 1, 1)) -∗ OU c (outAt m ρ c) -∗ SD c (.inl (0, 0, 0)) -∗ SF c (.inl (0, 0, 0)) (CT m ρ c (.inl (0, 0, 0))) -∗ OW c 21
            -∗ Kt ⟨⟩)
        -∗ WP c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 (k0_pay51 (ldwo m ρ c)) (k0_pay57 (CT m ρ c (.inr (2, 1))) (CT m ρ (par (rd (.inr (2, 1))) c) (.inr (2, 1)))) (k0_pay60 (k0_pay57 (CT m ρ c (.inr (2, 1))) (CT m ρ (par (rd (.inr (2, 1))) c) (.inr (2, 1)))) (k0_pay58 (CT m ρ c (.inl (2, 1, 0)))) (CT m ρ (par (rd (.inl (2, 1, 0))) c) (.inl (2, 1, 0)))) (k0_pay61 (k0_pay57 (CT m ρ c (.inr (2, 1))) (CT m ρ (par (rd (.inr (2, 1))) c) (.inr (2, 1)))) (k0_pay58 (CT m ρ c (.inl (2, 1, 0)))) (CT m ρ (par (rd (.inl (2, 1, 0))) c) (.inl (2, 1, 0)))) (k0_pay62 (CT m ρ c (.inl (2, 1, 1))))) Kt) := by
  rw [k0_part32_eq_skeleton]
  unfold k0_part32_skel
  simp only [Prog.lift, Prog.bind_op, Prog.bind_ret, Prog.pure_eq_ret, Prog.bind_assoc]
  iintro #HC Rn211 HU Tn000 Sn000 HO Hk
  iapply (wp_ld c rnM (nR (2, 1, 1)) (fun _ => rfl)) $$ Rn211
  iintro Rn211
  iapply (putO c 1 (o1 m ρ c) rfl) $$ HU
  iintro HU
  ihave HU := (fullO m ρ c U) $$ HU
  iapply (sent m ρ K c (.inl (0, 0, 0)) 21 (by decide) rfl rfl rfl) $$ HC Tn000 Sn000 HO
  iintro Sn000 Tn000 HO
  iapply (done c)
  iapply Hk $$ Rn211 HU Tn000 Sn000 HO

theorem part33 {Kt} :
    ctx m ρ K ⊢ iprop(SS c (.inl (0, 0, 1)) -∗ SR m ρ c (.inl (0, 0, 1)) -∗ OW c 21 -∗ SS c (.inr (0, 0)) -∗ SR m ρ c (.inr (0, 0))
        -∗ (SD c (.inl (0, 0, 1)) -∗ SF c (.inl (0, 0, 1)) (CT m ρ c (.inl (0, 0, 1))) -∗ OW c 21 -∗ SD c (.inr (0, 0)) -∗ SF c (.inr (0, 0)) (CT m ρ c (.inr (0, 0)))
            -∗ Kt ⟨⟩)
        -∗ WP c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part33_eq_skeleton]
  unfold k0_part33_skel
  simp only [Prog.lift, Prog.bind_op, Prog.bind_ret, Prog.pure_eq_ret, Prog.bind_assoc]
  iintro #HC Tn001 Sn001 HO Td00 Sd00 Hk
  iapply (sent m ρ K c (.inl (0, 0, 1)) 21 (by decide) rfl rfl rfl) $$ HC Tn001 Sn001 HO
  iintro Sn001 Tn001 HO
  iapply (sent m ρ K c (.inr (0, 0)) 21 (by decide) rfl rfl rfl) $$ HC Td00 Sd00 HO
  iintro Sd00 Td00 HO
  iapply (done c)
  iapply Hk $$ Tn001 Sn001 HO Td00 Sd00

theorem part34 {Kt} :
    ctx m ρ K ⊢ iprop(SS c (.inl (0, 1, 0)) -∗ SR m ρ c (.inl (0, 1, 0)) -∗ OW c 21 -∗ SS c (.inl (0, 1, 1)) -∗ SR m ρ c (.inl (0, 1, 1)) -∗ SS c (.inr (0, 1)) -∗ SR m ρ c (.inr (0, 1))
        -∗ (SD c (.inl (0, 1, 0)) -∗ SF c (.inl (0, 1, 0)) (CT m ρ c (.inl (0, 1, 0))) -∗ OW c 21 -∗ SD c (.inl (0, 1, 1)) -∗ SF c (.inl (0, 1, 1)) (CT m ρ c (.inl (0, 1, 1))) -∗ SD c (.inr (0, 1)) -∗ SF c (.inr (0, 1)) (CT m ρ c (.inr (0, 1)))
            -∗ Kt ⟨⟩)
        -∗ WP c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part34_eq_skeleton]
  unfold k0_part34_skel
  simp only [Prog.lift, Prog.bind_op, Prog.bind_ret, Prog.pure_eq_ret, Prog.bind_assoc]
  iintro #HC Tn010 Sn010 HO Tn011 Sn011 Td01 Sd01 Hk
  iapply (sent m ρ K c (.inl (0, 1, 0)) 21 (by decide) rfl rfl rfl) $$ HC Tn010 Sn010 HO
  iintro Sn010 Tn010 HO
  iapply (sent m ρ K c (.inl (0, 1, 1)) 21 (by decide) rfl rfl rfl) $$ HC Tn011 Sn011 HO
  iintro Sn011 Tn011 HO
  iapply (sent m ρ K c (.inr (0, 1)) 21 (by decide) rfl rfl rfl) $$ HC Td01 Sd01 HO
  iintro Sd01 Td01 HO
  iapply (done c)
  iapply Hk $$ Tn010 Sn010 HO Tn011 Sn011 Td01 Sd01

theorem part35 {Kt} :
    ctx m ρ K ⊢ iprop(SS c (.inl (1, 0, 0)) -∗ SR m ρ c (.inl (1, 0, 0)) -∗ OW c 21 -∗ SS c (.inl (1, 0, 1)) -∗ SR m ρ c (.inl (1, 0, 1)) -∗ SS c (.inr (1, 0)) -∗ SR m ρ c (.inr (1, 0))
        -∗ (SD c (.inl (1, 0, 0)) -∗ SF c (.inl (1, 0, 0)) (CT m ρ c (.inl (1, 0, 0))) -∗ OW c 21 -∗ SD c (.inl (1, 0, 1)) -∗ SF c (.inl (1, 0, 1)) (CT m ρ c (.inl (1, 0, 1))) -∗ SD c (.inr (1, 0)) -∗ SF c (.inr (1, 0)) (CT m ρ c (.inr (1, 0)))
            -∗ Kt ⟨⟩)
        -∗ WP c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part35_eq_skeleton]
  unfold k0_part35_skel
  simp only [Prog.lift, Prog.bind_op, Prog.bind_ret, Prog.pure_eq_ret, Prog.bind_assoc]
  iintro #HC Tn100 Sn100 HO Tn101 Sn101 Td10 Sd10 Hk
  iapply (sent m ρ K c (.inl (1, 0, 0)) 21 (by decide) rfl rfl rfl) $$ HC Tn100 Sn100 HO
  iintro Sn100 Tn100 HO
  iapply (sent m ρ K c (.inl (1, 0, 1)) 21 (by decide) rfl rfl rfl) $$ HC Tn101 Sn101 HO
  iintro Sn101 Tn101 HO
  iapply (sent m ρ K c (.inr (1, 0)) 21 (by decide) rfl rfl rfl) $$ HC Td10 Sd10 HO
  iintro Sd10 Td10 HO
  iapply (done c)
  iapply Hk $$ Tn100 Sn100 HO Tn101 Sn101 Td10 Sd10

theorem part36 {Kt} :
    ctx m ρ K ⊢ iprop(SS c (.inl (1, 1, 0)) -∗ SR m ρ c (.inl (1, 1, 0)) -∗ OW c 21 -∗ SS c (.inl (1, 1, 1)) -∗ SR m ρ c (.inl (1, 1, 1))
        -∗ (SD c (.inl (1, 1, 0)) -∗ SF c (.inl (1, 1, 0)) (CT m ρ c (.inl (1, 1, 0))) -∗ OW c 21 -∗ SD c (.inl (1, 1, 1)) -∗ SF c (.inl (1, 1, 1)) (CT m ρ c (.inl (1, 1, 1)))
            -∗ Kt ⟨⟩)
        -∗ WP c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part36_eq_skeleton]
  unfold k0_part36_skel
  simp only [Prog.lift, Prog.bind_op, Prog.bind_ret, Prog.pure_eq_ret, Prog.bind_assoc]
  iintro #HC Tn110 Sn110 HO Tn111 Sn111 Hk
  iapply (sent m ρ K c (.inl (1, 1, 0)) 21 (by decide) rfl rfl rfl) $$ HC Tn110 Sn110 HO
  iintro Sn110 Tn110 HO
  iapply (sent m ρ K c (.inl (1, 1, 1)) 21 (by decide) rfl rfl rfl) $$ HC Tn111 Sn111 HO
  iintro Sn111 Tn111 HO
  iapply (done c)
  iapply Hk $$ Tn110 Sn110 HO Tn111 Sn111

theorem part37 {Kt} :
    ctx m ρ K ⊢ iprop(SS c (.inr (1, 1)) -∗ SR m ρ c (.inr (1, 1)) -∗ OW c 21 -∗ SS c (.inl (2, 0, 0)) -∗ SR m ρ c (.inl (2, 0, 0)) -∗ SS c (.inl (2, 0, 1)) -∗ SR m ρ c (.inl (2, 0, 1))
        -∗ (SD c (.inr (1, 1)) -∗ SF c (.inr (1, 1)) (CT m ρ c (.inr (1, 1))) -∗ OW c 21 -∗ SD c (.inl (2, 0, 0)) -∗ SF c (.inl (2, 0, 0)) (CT m ρ c (.inl (2, 0, 0))) -∗ SD c (.inl (2, 0, 1)) -∗ SF c (.inl (2, 0, 1)) (CT m ρ c (.inl (2, 0, 1)))
            -∗ Kt ⟨⟩)
        -∗ WP c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part37_eq_skeleton]
  unfold k0_part37_skel
  simp only [Prog.lift, Prog.bind_op, Prog.bind_ret, Prog.pure_eq_ret, Prog.bind_assoc]
  iintro #HC Td11 Sd11 HO Tn200 Sn200 Tn201 Sn201 Hk
  iapply (sent m ρ K c (.inr (1, 1)) 21 (by decide) rfl rfl rfl) $$ HC Td11 Sd11 HO
  iintro Sd11 Td11 HO
  iapply (sent m ρ K c (.inl (2, 0, 0)) 21 (by decide) rfl rfl rfl) $$ HC Tn200 Sn200 HO
  iintro Sn200 Tn200 HO
  iapply (sent m ρ K c (.inl (2, 0, 1)) 21 (by decide) rfl rfl rfl) $$ HC Tn201 Sn201 HO
  iintro Sn201 Tn201 HO
  iapply (done c)
  iapply Hk $$ Td11 Sd11 HO Tn200 Sn200 Tn201 Sn201

theorem part38 {Kt} :
    ctx m ρ K ⊢ iprop(SS c (.inr (2, 0)) -∗ SR m ρ c (.inr (2, 0)) -∗ OW c 21 -∗ SS c (.inl (2, 1, 0)) -∗ SR m ρ c (.inl (2, 1, 0)) -∗ SS c (.inl (2, 1, 1)) -∗ SR m ρ c (.inl (2, 1, 1))
        -∗ (SD c (.inr (2, 0)) -∗ SF c (.inr (2, 0)) (CT m ρ c (.inr (2, 0))) -∗ OW c 21 -∗ SD c (.inl (2, 1, 0)) -∗ SF c (.inl (2, 1, 0)) (CT m ρ c (.inl (2, 1, 0))) -∗ SD c (.inl (2, 1, 1)) -∗ SF c (.inl (2, 1, 1)) (CT m ρ c (.inl (2, 1, 1)))
            -∗ Kt ⟨⟩)
        -∗ WP c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 ) Kt) := by
  rw [k0_part38_eq_skeleton]
  unfold k0_part38_skel
  simp only [Prog.lift, Prog.bind_op, Prog.bind_ret, Prog.pure_eq_ret, Prog.bind_assoc]
  iintro #HC Td20 Sd20 HO Tn210 Sn210 Tn211 Sn211 Hk
  iapply (sent m ρ K c (.inr (2, 0)) 21 (by decide) rfl rfl rfl) $$ HC Td20 Sd20 HO
  iintro Sd20 Td20 HO
  iapply (sent m ρ K c (.inl (2, 1, 0)) 21 (by decide) rfl rfl rfl) $$ HC Tn210 Sn210 HO
  iintro Sn210 Tn210 HO
  iapply (sent m ρ K c (.inl (2, 1, 1)) 21 (by decide) rfl rfl rfl) $$ HC Tn211 Sn211 HO
  iintro Sn211 Tn211 HO
  iapply (done c)
  iapply Hk $$ Td20 Sd20 HO Tn210 Sn210 Tn211 Sn211

end Cert.KernelIdeal.Hyper
-- ==== Proof.KernelIdeal.Body.lean ====
/-
# The whole body on one device
-/
module

public import proofs.«01_k».proof.Proof.KernelIdeal.Fill
public import proofs.«01_k».proof.Proof.KernelIdeal.Trade
public import proofs.«01_k».proof.Proof.KernelIdeal.Tail

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CK → ℕ) (c : Dev nD)

/-- A resource for each transfer, written out. -/
theorem bigKI (Φ : KI → sProp 𝕄) : (bigSep Finset.univ fun k : KI => Φ k)
    = iprop(Φ (.inl (0, 0, 0)) ∗ Φ (.inl (0, 0, 1)) ∗ Φ (.inl (0, 1, 0)) ∗ Φ (.inl (0, 1, 1)) ∗ Φ (.inl (1, 0, 0)) ∗ Φ (.inl (1, 0, 1)) ∗ Φ (.inl (1, 1, 0)) ∗ Φ (.inl (1, 1, 1)) ∗ Φ (.inl (2, 0, 0)) ∗ Φ (.inl (2, 0, 1)) ∗ Φ (.inl (2, 1, 0)) ∗ Φ (.inl (2, 1, 1)) ∗ Φ (.inr (0, 0)) ∗ Φ (.inr (0, 1)) ∗ Φ (.inr (1, 0)) ∗ Φ (.inr (1, 1)) ∗ Φ (.inr (2, 0)) ∗ Φ (.inr (2, 1))) := by
  rw [bigSep_univ_eq_bigSepL [(.inl (0, 0, 0)), (.inl (0, 0, 1)), (.inl (0, 1, 0)), (.inl (0, 1, 1)), (.inl (1, 0, 0)), (.inl (1, 0, 1)), (.inl (1, 1, 0)), (.inl (1, 1, 1)), (.inl (2, 0, 0)), (.inl (2, 0, 1)), (.inl (2, 1, 0)), (.inl (2, 1, 1)), (.inr (0, 0)), (.inr (0, 1)), (.inr (1, 0)), (.inr (1, 1)), (.inr (2, 0)), (.inr (2, 1))] (by decide) (by decide)]
  simp only [bigSepL_cons_cons, bigSepL_singleton]
  rfl

/-- The partners' slots for one round, written out. -/
theorem partSlots_eq (r : Fin 3) : partSlots (F := F) c r
    = iprop((DP c (.inl (r, 0, 0)) ∗ DP c (.inl (r, 0, 1)) ∗ DP c (.inl (r, 1, 0)) ∗ DP c (.inl (r, 1, 1))) ∗ DP c (.inr (r, 0)) ∗ DP c (.inr (r, 1))) := by
  unfold partSlots recvSlots
  rw [bigSep_univ_eq_bigSepL [(0, 0), (0, 1), (1, 0), (1, 1)] (by decide) (by decide), bigSep_univ_eq_bigSepL [0, 1] (by decide) (by decide)]
  simp only [bigSepL_cons_cons, bigSepL_singleton]
  rfl

theorem bindI {α β : Type} {p : Prog (TpuEff nD τ sig (Elt F) Λ₀ .tc) α} {f : α → Prog (TpuEff nD τ sig (Elt F) Λ₀ .tc) β} {Q : β → sProp 𝕄} :
    WP c p (fun a => WP c (f a) Q) ⊢ WP c (Prog.bind p f) Q := by
  show _ ⊢ wp _ _ _ (p >>= f) _
  rw [wp_bind]

theorem dev22 : (⟨k0_dev22 c, k0_dev22_lt c⟩ : Dev nD) = par (0 : Fin 3) c := by revert c; decide
theorem dev23 : (⟨k0_dev23 c, k0_dev23_lt c⟩ : Dev nD) = par (1 : Fin 3) c := by revert c; decide
theorem dev24 : (⟨k0_dev24 c, k0_dev24_lt c⟩ : Dev nD) = par (2 : Fin 3) c := by revert c; decide

theorem part1 {Kt} :
    ctx m ρ K ⊢ iprop(IN m ρ c -∗ OW c 0 -∗ cred (tallyAt (barCell c) () 3) -∗ atPos ER (barCell c) 0 ∅ 0
        -∗ dutyTok ER ((par (0 : Fin 3) c : Thread nD τ), .reg barS) 0 0 -∗ dutyTok ER ((par (1 : Fin 3) c : Thread nD τ), .reg barS) 0 1 -∗ dutyTok ER ((par (2 : Fin 3) c : Thread nD τ), .reg barS) 0 2
        -∗ recvSlots (F := F) 0 c -∗ recvSlots (F := F) 1 c -∗ recvSlots (F := F) 2 c
        -∗ (∀ v3, ∀ v4, ∀ v5, IN m ρ c -∗ OW c 3 -∗ atPos ER (barCell c) (0 + 1) ∅ 0 -∗ partSlots (F := F) c 0 -∗ partSlots (F := F) c 1 -∗ partSlots (F := F) c 2
            -∗ Kt ⟨c, v3, v4, v5, k0_pay1 c, k0_pay2 (ldwq m ρ c), k0_pay3⟩)
        -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0) Kt) := by
  rw [k0_part1_eq_skeleton]
  unfold k0_part1_skel
  simp only [semSignalWord, semWaitWord, Prog.lift, Prog.bind_op, Prog.bind_ret, Prog.pure_eq_ret, Prog.bind_assoc, WP, wp_deviceId]
  iintro #HC HI HO Hc Hat Ht0 Ht1 Ht2 Hr0 Hr1 Hr2 Hk
  iapply (sigBar m ρ K c 0 (n := 0) rfl _ (by revert c; decide) rfl rfl) $$ HC HO Ht0 Hr0
  iintro HO
  iapply (sigBar m ρ K c 1 (n := 1) rfl _ (by revert c; decide) rfl rfl) $$ HC HO Ht1 Hr1
  iintro HO
  iapply (sigBar m ρ K c 2 (n := 2) rfl _ (by revert c; decide) rfl rfl) $$ HC HO Ht2 Hr2
  iintro HO
  iapply (waitBar m ρ K c 3 (by decide) rfl rfl) $$ HC HO Hc Hat
  iintro HO Hat H0 H1 H2
  iapply (wp_ldwq m ρ c) $$ HI
  iintro HI
  iapply (done c)
  iapply Hk $$ %_ %_ %_ HI HO Hat H0 H1 H2

/-- What a device starts from, besides the shared facts: its blocks, what it owes, its barrier cells, and for
    each transfer the two slots, the tokens and the credit. -/
def pre (U : FVec F S2x256x512 .f32) : sProp 𝕄 :=
  iprop(IN m ρ c ∗ OU c U ∗ OW c 0 ∗ (cred (tallyAt (barCell c) () 3) ∗ atPos ER (barCell c) 0 ∅ 0) ∗ (cred (tallyAt (finCell c) () 3) ∗ atPos ER (finCell c) 0 ∅ 0)
    ∗ (dutyTok ER ((par (0 : Fin 3) c : Thread nD τ), .reg barS) 0 0 ∗ dutyTok ER ((par (1 : Fin 3) c : Thread nD τ), .reg barS) 0 1 ∗ dutyTok ER ((par (2 : Fin 3) c : Thread nD τ), .reg barS) 0 2)
    ∗ (dutyTok ER ((par (0 : Fin 3) c : Thread nD τ), .reg finS) 0 0 ∗ dutyTok ER ((par (1 : Fin 3) c : Thread nD τ), .reg finS) 0 1 ∗ dutyTok ER ((par (2 : Fin 3) c : Thread nD τ), .reg finS) 0 2)
    ∗ (recvSlots (F := F) 0 c ∗ recvSlots (F := F) 1 c ∗ recvSlots (F := F) 2 c)
    ∗ (bigSep Finset.univ fun k : KI => iprop(∃ X, SF (F := F) c k X)) ∗ (bigSep Finset.univ fun k : KI => TS (F := F) c k) ∗ bigSep Finset.univ fun k : KI => VV (F := F) c k)

/-- What it ends with. -/
def post : sProp 𝕄 :=
  iprop(IN m ρ c ∗ OU c (outAt m ρ c) ∗ OW c 24 ∗ atPos ER (barCell c) (0 + 1) ∅ 0 ∗ atPos ER (finCell c) (0 + 1) ∅ 0
    ∗ (bigSep Finset.univ fun k : KI => SF (F := F) c k (CT m ρ c k)) ∗ (bigSep Finset.univ fun k : KI => RV m ρ c k)
    ∗ (bigSep Finset.univ fun k : KI => SD (F := F) c k) ∗ bigSep Finset.univ fun k : KI => VD (F := F) c k)

set_option maxHeartbeats 4000000 in
theorem body (U : FVec F S2x256x512 .f32) {Kt} :
    ctx m ρ K ⊢ iprop(pre m ρ c U -∗ (post m ρ c -∗ Kt ⟨⟩) -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0) Kt) := by
  rw [cc0_body_eq_skeleton]
  unfold cc0_body_skel pre
  rw [bigKI, bigKI, bigKI]
  iintro #HC ⟨HI, HU, HO, ⟨Hbc, Hba⟩, ⟨Hfc, Hfa⟩, ⟨Ht0, Ht1, Ht2⟩, ⟨Hf0, Hf1, Hf2⟩, ⟨Hr0, Hr1, Hr2⟩, ⟨⟨%Xn000, Sn000⟩, ⟨%Xn001, Sn001⟩, ⟨%Xn010, Sn010⟩, ⟨%Xn011, Sn011⟩, ⟨%Xn100, Sn100⟩, ⟨%Xn101, Sn101⟩, ⟨%Xn110, Sn110⟩, ⟨%Xn111, Sn111⟩, ⟨%Xn200, Sn200⟩, ⟨%Xn201, Sn201⟩, ⟨%Xn210, Sn210⟩, ⟨%Xn211, Sn211⟩, ⟨%Xd00, Sd00⟩, ⟨%Xd01, Sd01⟩, ⟨%Xd10, Sd10⟩, ⟨%Xd11, Sd11⟩, ⟨%Xd20, Sd20⟩, ⟨%Xd21, Sd21⟩⟩, ⟨Tn000, Tn001, Tn010, Tn011, Tn100, Tn101, Tn110, Tn111, Tn200, Tn201, Tn210, Tn211, Td00, Td01, Td10, Td11, Td20, Td21⟩, Vn000, Vn001, Vn010, Vn011, Vn100, Vn101, Vn110, Vn111, Vn200, Vn201, Vn210, Vn211, Vd00, Vd01, Vd10, Vd11, Vd20, Vd21⟩ Hk
  iapply (bindI c)
  rw [k0_part39_eq_skeleton]
  unfold k0_part39_skel
  simp only [Prog.lift, Prog.bind_op, Prog.bind_ret, Prog.pure_eq_ret, Prog.bind_assoc]
  iapply (bindI c)
  iapply (part1 m ρ K c) $$ HC HI HO Hbc Hba Ht0 Ht1 Ht2 Hr0 Hr1 Hr2
  iintro %v3 %v4 %v5 HI HO Hba Hp0 Hp1 Hp2
  ihave Hp0 := (Entails.of_eq (partSlots_eq c 0)) $$ Hp0
  ihave Hp1 := (Entails.of_eq (partSlots_eq c 1)) $$ Hp1
  ihave Hp2 := (Entails.of_eq (partSlots_eq c 2)) $$ Hp2
  icases Hp0 with ⟨⟨Pn000, Pn001, Pn010, Pn011⟩, Pd00, Pd01⟩
  icases Hp1 with ⟨⟨Pn100, Pn101, Pn110, Pn111⟩, Pd10, Pd11⟩
  icases Hp2 with ⟨⟨Pn200, Pn201, Pn210, Pn211⟩, Pd20, Pd21⟩
  iapply (bindI c)
  iapply (part2 m ρ c Xd00 Xn000) $$ HI Sn000 Sd00
  iintro HI Sn000 Sd00
  iapply (bindI c)
  iapply (part3 m ρ c _ Xd00 Xn000) $$ HI Sn000 Sd00
  iintro %v86 HI Sn000 Sd00
  iapply (bindI c)
  iapply (part4 m ρ K c _ Xn001) $$ HC Sn000 Pn000 Tn000 HO HI Sn001
  iintro Sn000 Tn000 HO HI Sn001
  iapply (bindI c)
  iapply (part5 m ρ c Xd00 Xn001) $$ Sd00 HI Sn001
  iintro Sd00 HI Sn001
  iapply (bindI c)
  iapply (part6 m ρ K c _) $$ HC Sn001 Pn001 Tn001 HO Sd00 Pd00 Td00 HI
  iintro Sn001 Tn001 HO Sd00 Td00 HI
  iapply (bindI c)
  iapply (part7 m ρ c Xd01 Xn010) $$ HI Sn010 Sd01
  iintro HI Sn010 Sd01
  iapply (bindI c)
  iapply (part8 m ρ c _ Xd01 Xn010) $$ HI Sn010 Sd01
  iintro HI Sn010 Sd01
  iapply (bindI c)
  iapply (part9 m ρ K c Xd01 Xn011) $$ HC Sn010 Pn010 Tn010 HO HI Sn011 Sd01
  iintro Sn010 Tn010 HO HI Sn011 Sd01
  iapply (bindI c)
  iapply (part10 m ρ c _ Xd01 Xn011) $$ HI Sn011 Sd01
  iintro %v285 HI Sn011 Sd01
  iapply (bindI c)
  iapply (part11 m ρ K c _ _ _) $$ HC Sn011 Pn011 Tn011 HO Sd01 Pd01 Td01
  iintro Sn011 Tn011 HO Sd01 Td01
  iapply (bindI c)
  iapply (part12 m ρ K c _ Xn100) $$ HC Vn000 HO Sn000 Sn100 Pn100 Tn100
  iintro Vn000 HO Rn000 Sn000 Sn100 Tn100
  iapply (bindI c)
  iapply (part13 m ρ K c _ Xn101) $$ HC Vn001 HO Sn001 Sn101
  iintro Vn001 HO Rn001 Sn001 Sn101
  iapply (bindI c)
  iapply (part14 m ρ K c _ _ Xd10) $$ HC Sn101 Pn101 Tn101 HO Vd00 Sd00 Sd10
  iintro %v370 Sn101 Tn101 HO Vd00 Rd00 Sd00 Sd10
  iapply (bindI c)
  iapply (part15 m ρ K c _ _ _ Xd10) $$ HC Sd10 Pd10 Td10 HO Vn010
  iintro Sd10 Td10 HO Vn010 Rn010
  iapply (bindI c)
  iapply (part16 m ρ K c _ Xn110) $$ HC Sn010 Rn010 Sn110 Pn110 Tn110 HO
  iintro Sn010 Rn010 Sn110 Tn110 HO
  iapply (bindI c)
  iapply (part17 m ρ K c _ _ Xn111) $$ HC Vn011 HO Sn011 Sn111
  iintro Vn011 HO Rn011 Sn011 Sn111
  iapply (bindI c)
  iapply (part18 m ρ K c _ Xd11) $$ HC Sn111 Pn111 Tn111 HO Vd01 Sd01 Sd11
  iintro Sn111 Tn111 HO Vd01 Rd01 Sd01 Sd11
  iapply (bindI c)
  iapply (part19 m ρ K c _) $$ HC Sd11 Pd11 Td11 HO Vn100 Sn100
  iintro Sd11 Td11 HO Vn100 Rn100 Sn100
  iapply (bindI c)
  iapply (part20 m ρ K c _ _ Xn200) $$ HC Sn200 Pn200 Tn200 HO
  iintro Sn200 Tn200 HO
  iapply (bindI c)
  iapply (part21 m ρ K c _ Xn201) $$ HC Vn101 HO Sn101 Sn201 Pn201 Tn201
  iintro Vn101 HO Rn101 Sn101 Sn201 Tn201
  iapply (bindI c)
  iapply (part22 m ρ K c _ _ Xd20) $$ HC Vd10 HO Sd10 Sd20
  iintro Vd10 HO Rd10 Sd10 Sd20
  iapply (bindI c)
  iapply (part23 m ρ K c _ Xn210) $$ HC Sd20 Pd20 Td20 HO Vn110 Sn110 Sn210
  iintro Sd20 Td20 HO Vn110 Rn110 Sn110 Sn210
  iapply (bindI c)
  iapply (part24 m ρ K c _ _) $$ HC Sn210 Pn210 Tn210 HO Vn111 Sn111
  iintro Sn210 Tn210 HO Vn111 Rn111 Sn111
  iapply (bindI c)
  iapply (part25 m ρ K c _ _ Xn211) $$ HC Rn111 Sn211 Pn211 Tn211 HO
  iintro Rn111 Sn211 Tn211 HO
  iapply (bindI c)
  iapply (part26 m ρ K c _ Xd21) $$ HC Vd11 HO Sd11 Sd21 Pd21 Td21 HI
  iintro Vd11 HO Rd11 Sd11 Sd21 Td21 HI
  iapply (bindI c)
  iapply (part27 m ρ K c _) $$ HC Vd20 HO Sd20
  iintro Vd20 HO Rd20 Sd20
  iapply (bindI c)
  iapply (part28 m ρ K c _) $$ HC Vn200 HO Sn200
  iintro Vn200 HO Rn200 Sn200
  iapply (bindI c)
  iapply (part29 m ρ K c _ U) $$ HC Vn201 HO Sn201 HU
  iintro Vn201 HO Rn201 Sn201 HU
  iapply (bindI c)
  iapply (part30 m ρ K c _) $$ HC Vd21 HO Sd21 Vn210 Sn210
  iintro Vd21 HO Rd21 Sd21 Vn210 Rn210 Sn210
  iapply (bindI c)
  iapply (part31 m ρ K c _) $$ HC Rn210 Vn211 HO Sn211
  iintro Rn210 Vn211 HO Rn211 Sn211
  iapply (bindI c)
  iapply (part32 m ρ K c U) $$ HC Rn211 HU Tn000 Sn000 HO
  iintro Rn211 HU Tn000 Sn000 HO
  iapply (bindI c)
  iapply (part33 m ρ K c ) $$ HC Tn001 Sn001 HO Td00 Sd00
  iintro Tn001 Sn001 HO Td00 Sd00
  iapply (bindI c)
  iapply (part34 m ρ K c ) $$ HC Tn010 Sn010 HO Tn011 Sn011 Td01 Sd01
  iintro Tn010 Sn010 HO Tn011 Sn011 Td01 Sd01
  iapply (bindI c)
  iapply (part35 m ρ K c ) $$ HC Tn100 Sn100 HO Tn101 Sn101 Td10 Sd10
  iintro Tn100 Sn100 HO Tn101 Sn101 Td10 Sd10
  iapply (bindI c)
  iapply (part36 m ρ K c ) $$ HC Tn110 Sn110 HO Tn111 Sn111
  iintro Tn110 Sn110 HO Tn111 Sn111
  iapply (bindI c)
  iapply (part37 m ρ K c ) $$ HC Td11 Sd11 HO Tn200 Sn200 Tn201 Sn201
  iintro Td11 Sd11 HO Tn200 Sn200 Tn201 Sn201
  iapply (bindI c)
  iapply (part38 m ρ K c ) $$ HC Td20 Sd20 HO Tn210 Sn210 Tn211 Sn211
  iintro Td20 Sd20 HO Tn210 Sn210 Tn211 Sn211
  iapply (sent m ρ K c (.inr (2, 1)) 21 (by decide) rfl rfl rfl) $$ HC Td21 Sd21 HO
  iintro Sd21 Td21 HO
  iapply (done c)
  simp only [semSignalWord, semWaitWord, Prog.lift, Prog.bind_op, Prog.bind_ret, Prog.pure_eq_ret, Prog.bind_assoc]
  iapply (sigFin m ρ K c 0 (n := 21) rfl _ (dev22 c) rfl rfl) $$ HC HO Hf0
  iintro HO
  iapply (sigFin m ρ K c 1 (n := 22) rfl _ (dev23 c) rfl rfl) $$ HC HO Hf1
  iintro HO
  iapply (sigFin m ρ K c 2 (n := 23) rfl _ (dev24 c) rfl rfl) $$ HC HO Hf2
  iintro HO
  iapply (waitFin m ρ K c 24 (by decide) rfl rfl) $$ HC HO Hfc Hfa
  iintro HO Hfa
  iapply (done c)
  iapply Hk
  unfold post
  rw [bigKI, bigKI, bigKI, bigKI]
  iframe

end Cert.KernelIdeal.Hyper
-- ==== Proof.KernelIdeal.Slots.lean ====
/-
# Scratch buffers as slots

A scratch buffer is its slots, one by one; slots at any contents make up the buffer again.
-/
module

public import proofs.«01_k».proof.Proof.KernelIdeal.Body

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

/-- Contents of disjoint rectangles are parts of one contents. -/
theorem glue {sh : Shape} {α : Type} [Nonempty α] {T : Type} (r : T → Rect sh)
    (hd : ∀ t t', t ≠ t' → Disjoint (r t).set (r t').set) (X : ∀ t, (r t).shape.Idx → α) :
    ∃ Y : sh.Idx → α, ∀ t, (fun j => Y ((r t).emb j)) = X t := by
  classical
  have key : ∀ t' x' t x, (r t').emb x' = (r t).emb x → X t' x' = X t x := by
    intro t' x' t x h
    by_cases ht : t' = t
    · subst ht
      rw [(r t').emb.injective h]
    · exact absurd (show (r t').emb x' ∈ (r t).set from h ▸ (r t).toLoadRect.idx_mem x) (Finset.disjoint_left.mp (hd _ _ ht) ((r t').toLoadRect.idx_mem x'))
  refine ⟨fun i => if h : ∃ p : (t : T) × (r t).shape.Idx, (r p.1).emb p.2 = i then X h.choose.1 h.choose.2 else Classical.arbitrary α, fun t => funext fun j => ?_⟩
  have h : ∃ p : (t : T) × (r t).shape.Idx, (r p.1).emb p.2 = (r t).emb j := ⟨⟨t, j⟩, rfl⟩
  dsimp only
  rw [dif_pos h]
  exact key _ _ _ _ h.choose_spec

theorem own_any {sh : Shape} {e : EltTy} (M : Memref sig .tc .vmem sh e) (X : sh.Idx → Elt F e) :
    (owns (c : Thread nD τ) M fullShare X : sProp 𝕄) ⊢ iprop(∃ X, owns (c : Thread nD τ) M fullShare X) := by
  iintro H; iexists _; iexact H

section Gen

variable {sh : Shape} {e : EltTy} (M : Memref sig .tc .vmem sh e) {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in
theorem split_rects : iprop(∃ X, owns (c : Thread nD τ) M fullShare X)
    ⊢ (bigSep Finset.univ fun t => iprop(∃ X, owns (c : Thread nD τ) (M.slice (r t) (hr t)) fullShare X) : sProp 𝕄) := by
  iintro ⟨%X, H⟩
  ihave H := (owns_rects (c : Thread nD τ) M fullShare r hr hd hcov X) $$ H
  have h : (bigSep Finset.univ fun t => (owns (c : Thread nD τ) (M.slice (r t) (hr t)) fullShare (fun j => X ((r t).emb j)) : sProp 𝕄))
      ⊢ bigSep Finset.univ fun t => iprop(∃ X, owns (c : Thread nD τ) (M.slice (r t) (hr t)) fullShare X) :=
    bigSep_mono fun t _ => own_any c _ _
  iapply h $$ H

include hd hcov in
theorem join_rects : (bigSep Finset.univ fun t => iprop(∃ X, owns (c : Thread nD τ) (M.slice (r t) (hr t)) fullShare X) : sProp 𝕄)
    ⊢ iprop(∃ X, owns (c : Thread nD τ) M fullShare X) := by
  iintro H
  ihave H := (BI.bigSep_exists_pi Finset.univ (fun t X => (owns (c : Thread nD τ) (M.slice (r t) (hr t)) fullShare X : sProp 𝕄))) $$ H
  icases H with ⟨%X, H⟩
  obtain ⟨Y, hY⟩ := glue r hd X
  iexists Y
  iapply (owns_of_rects (c : Thread nD τ) M fullShare r hr hd hcov Y)
  have e : (bigSep Finset.univ fun t => (owns (c : Thread nD τ) (M.slice (r t) (hr t)) fullShare (X t) : sProp 𝕄))
      = bigSep Finset.univ fun t => owns (c : Thread nD τ) (M.slice (r t) (hr t)) fullShare (fun j => Y ((r t).emb j)) :=
    bigSep_congr fun t _ => by rw [hY t]
  iapply (Entails.of_eq e) $$ H

end Gen

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem any_whole (b : Ref sig .tc) : (iprop(∃ f : Buf (Elt F) (((c : Dev nD) : Thread nD τ).loc b), ((c : Thread nD τ).loc b) ↦{fullShare} f) : sProp 𝕄)
    ⊢ iprop(∃ X : b.ty.Contents (Elt F), owns (Ix := Unit) (Name := ℕ) (U := UU) (Lvl := ℕ) (c : Thread nD τ) (Memref.whole b) fullShare X) := by
  iintro ⟨%f, H⟩
  iexists f
  iapply (Entails.of_eq (owns_whole_eq c b f).symm)
  iexists f
  isplitr
  · ipureintro; rfl
  iexact H
theorem whole_any (b : Ref sig .tc) :
    (iprop(∃ X : b.ty.Contents (Elt F), owns (Ix := Unit) (Name := ℕ) (U := UU) (Lvl := ℕ) (c : Thread nD τ) (Memref.whole b) fullShare X) : sProp 𝕄)
    ⊢ iprop(∃ f : Buf (Elt F) (((c : Dev nD) : Thread nD τ).loc b), ((c : Thread nD τ).loc b) ↦{fullShare} f) := by
  iintro ⟨%X, H⟩
  ihave H := (Entails.of_eq (owns_whole_eq c b X)) $$ H
  icases H with ⟨%f, -, H⟩
  iexists f
  iexact H

theorem mem_nR (t : NI) (j : S3x2x2x256x128.Idx) : j ∈ (nR t).set ↔ (j 0 : ℕ) = t.1 ∧ (j 1 : ℕ) = t.2.1 ∧ (j 2 : ℕ) = t.2.2 := by
  rw [Rect.mem_set_unit]
  constructor
  · intro H
    have h0 := H 0
    have h1 := H 1
    have h2 := H 2
    simp [S1x1x1x256x128] at h0 h1 h2
    omega
  · intro H a
    have ha := (j a).isLt
    fin_cases a <;> simp_all [S1x1x1x256x128, S3x2x2x256x128]
theorem mem_dR (t : DI) (j : S3x2x8x1024.Idx) : j ∈ (dR t).set ↔ (j 0 : ℕ) = t.1 ∧ (j 1 : ℕ) = t.2 := by
  rw [Rect.mem_set_unit]
  constructor
  · intro H
    have h0 := H 0
    have h1 := H 1
    simp [S1x1x8x1024] at h0 h1
    omega
  · intro H a
    have ha := (j a).isLt
    fin_cases a <;> simp_all [S1x1x8x1024, S3x2x8x1024]

theorem nR_disj (t t' : NI) (h : t ≠ t') : Disjoint (nR t).set (nR t').set :=
  Finset.disjoint_left.mpr fun j hj hj' => h (by
    rw [mem_nR] at hj hj'
    obtain ⟨a, b, d⟩ := t; obtain ⟨a', b', d'⟩ := t'
    simp only at hj hj'
    rw [show a = a' from Fin.ext (by omega), show b = b' from Fin.ext (by omega), show d = d' from Fin.ext (by omega)])
theorem dR_disj (t t' : DI) (h : t ≠ t') : Disjoint (dR t).set (dR t').set :=
  Finset.disjoint_left.mpr fun j hj hj' => h (by
    rw [mem_dR] at hj hj'
    obtain ⟨a, b⟩ := t; obtain ⟨a', b'⟩ := t'
    simp only at hj hj'
    rw [show a = a' from Fin.ext (by omega), show b = b' from Fin.ext (by omega)])
theorem nR_cov : (Finset.univ : Finset NI).biUnion (fun t => (nR t).set) = Finset.univ := by
  ext j
  refine ⟨fun _ => Finset.mem_univ _, fun _ => Finset.mem_biUnion.mpr ⟨(⟨j 0, (j 0).isLt⟩, ⟨j 1, (j 1).isLt⟩, ⟨j 2, (j 2).isLt⟩), Finset.mem_univ _, ?_⟩⟩
  rw [mem_nR]
  exact ⟨rfl, rfl, rfl⟩
theorem dR_cov : (Finset.univ : Finset DI).biUnion (fun t => (dR t).set) = Finset.univ := by
  ext j
  refine ⟨fun _ => Finset.mem_univ _, fun _ => Finset.mem_biUnion.mpr ⟨(⟨j 0, (j 0).isLt⟩, ⟨j 1, (j 1).isLt⟩), Finset.mem_univ _, ?_⟩⟩
  rw [mem_dR]
  exact ⟨rfl, rfl⟩

/-- A scratch buffer at any contents. -/
abbrev ANY (b : Ref sig .tc) : sProp 𝕄 := iprop(∃ f : Buf (Elt F) (((c : Dev nD) : Thread nD τ).loc b), ((c : Thread nD τ).loc b) ↦{fullShare} f)

/-- The two send buffers are the source slots, -/
theorem split_s : iprop(ANY (F := F) c cc0_scratch0 ∗ ANY (F := F) c cc0_scratch2)
    ⊢ (bigSep Finset.univ fun k : KI => iprop(∃ X, SF (F := F) c k X) : sProp 𝕄) := by
  rw [bigSep_univ_sum]
  exact BI.sep_mono ((any_whole c cc0_scratch0).trans (split_rects c snM nR (fun _ _ => rfl) nR_disj nR_cov))
    ((any_whole c cc0_scratch2).trans (split_rects c sdM dR (fun _ _ => rfl) dR_disj dR_cov))
theorem join_s : (bigSep Finset.univ fun k : KI => iprop(∃ X, SF (F := F) c k X) : sProp 𝕄)
    ⊢ iprop(ANY (F := F) c cc0_scratch0 ∗ ANY (F := F) c cc0_scratch2) := by
  rw [bigSep_univ_sum]
  exact BI.sep_mono ((join_rects c snM nR (fun _ _ => rfl) nR_disj nR_cov).trans (whole_any c cc0_scratch0))
    ((join_rects c sdM dR (fun _ _ => rfl) dR_disj dR_cov).trans (whole_any c cc0_scratch2))
/-- and the two receive buffers the target slots. -/
theorem split_v : iprop(ANY (F := F) c cc0_scratch1 ∗ ANY (F := F) c cc0_scratch3)
    ⊢ (bigSep Finset.univ fun k : KI => slotAny (F := F) c k : sProp 𝕄) := by
  rw [bigSep_univ_sum]
  exact BI.sep_mono ((any_whole c cc0_scratch1).trans (split_rects c rnM nR (fun _ _ => rfl) nR_disj nR_cov))
    ((any_whole c cc0_scratch3).trans (split_rects c rdM dR (fun _ _ => rfl) dR_disj dR_cov))
theorem join_v : (bigSep Finset.univ fun k : KI => slotAny (F := F) c k : sProp 𝕄)
    ⊢ iprop(ANY (F := F) c cc0_scratch1 ∗ ANY (F := F) c cc0_scratch3) := by
  rw [bigSep_univ_sum]
  exact BI.sep_mono ((join_rects c rnM nR (fun _ _ => rfl) nR_disj nR_cov).trans (whole_any c cc0_scratch1))
    ((join_rects c rdM dR (fun _ _ => rfl) dR_disj dR_cov).trans (whole_any c cc0_scratch3))

/-- The target slots round by round. -/
theorem rounds_v : (bigSep Finset.univ fun k : KI => slotAny (F := F) c k : sProp 𝕄)
    ⊢ iprop(recvSlots (F := F) 0 c ∗ recvSlots (F := F) 1 c ∗ recvSlots (F := F) 2 c) := by
  rw [bigSep_univ_sum, bigSep_univ_prod, bigSep_univ_prod,
    bigSep_univ_eq_bigSepL [(0 : Fin 3), 1, 2] (by decide) (by decide), bigSep_univ_eq_bigSepL [(0 : Fin 3), 1, 2] (by decide) (by decide)]
  simp only [bigSepL_cons_cons, bigSepL_singleton]
  unfold recvSlots
  show iprop((_ ∗ _ ∗ _) ∗ _ ∗ _ ∗ _) ⊢ _
  iintro ⟨⟨N0, N1, N2⟩, D0, D1, D2⟩
  isplitl [N0 D0]
  · isplitl [N0] <;> iassumption
  isplitl [N1 D1]
  · isplitl [N1] <;> iassumption
  isplitl [N2] <;> iassumption

end Cert.KernelIdeal.Hyper
-- ==== Proof.KernelIdeal.Ghost.lean ====
/-
# Allocation

The cells are allocated on all devices at once, and the tokens dealt to the devices that spend them; each
device's launch credit is what its partners owe its cells.
-/
module

public import proofs.«01_k».proof.Proof.KernelIdeal.Slots

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

/-! ## The cells and the tokens -/

theorem kcell_inj : Function.Injective kcell := by
  rintro ⟨c, k⟩ ⟨c', k'⟩ h
  have h1 : c = c' := congrArg (fun g : GSem nD τ sig => g.1.1) h
  subst h1
  have h2 : k = k' := cs_inj (congrArg Prod.snd h)
  subst h2
  rfl

def ringCells : Finset (GSem nD τ sig) := Finset.univ.map ⟨kcell, kcell_inj⟩

/-- A device's tokens: three for each barrier, one for each transfer cell. -/
abbrev TK : Type := (Fin 2 × Fin 3) ⊕ (KI ⊕ KI)
def tk : TK → SemLoc sig × Fin 3
  | .inl p => (.reg (p.1 : Sem sig), p.2)
  | .inr x => (.dma (xS x), 0)
def tokOf (x : Dev nD × TK) : GSem nD τ sig × ℕ × Fin 3 := (((x.1 : Thread nD τ), (tk x.2).1), 0, (tk x.2).2)
theorem tk_inj : Function.Injective tk := by
  intro k k' h
  rcases k with ⟨a, b⟩ | k <;> rcases k' with ⟨a', b'⟩ | k' <;> simp only [tk, Prod.mk.injEq] at h
  · obtain ⟨h1, h2⟩ := h
    injection h1 with h1
    rw [h1, h2]
  · exact absurd h.1 (by simp)
  · exact absurd h.1 (by simp)
  · have h1 := h.1
    injection h1 with h1
    rw [xS_inj h1]
theorem tokOf_inj : Function.Injective tokOf := by
  rintro ⟨c, k⟩ ⟨c', k'⟩ h
  have h1 : c = c' := congrArg (fun g : GSem nD τ sig × ℕ × Fin 3 => g.1.1.1) h
  subst h1
  have h2 : tk k = tk k' := Prod.ext (congrArg (fun g : GSem nD τ sig × ℕ × Fin 3 => g.1.2) h) (congrArg (fun g : GSem nD τ sig × ℕ × Fin 3 => g.2.2) h)
  rw [tk_inj h2]
def ringToks : Finset (GSem nD τ sig × ℕ × Fin 3) := Finset.univ.map ⟨tokOf, tokOf_inj⟩

def u₀ : UU := (initOf (Pipeline.cells cfgs cellOf_inj) (Pipeline.launchToks cfgs cellOf_inj), initOf ringCells ringToks)

/-- The tokens of a device's own cells. -/
def toks : sProp 𝕄 := bigSep Finset.univ fun k : TK => dutyTok ER ((c : Thread nD τ), (tk k).1) 0 (tk k).2

def G : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Counters become cells -/

/-- The semaphores scoped to the kernel: all but the barrier. -/
abbrev OI : Type := Unit ⊕ (KI ⊕ KI)
def osem : OI → SemLoc sig
  | .inl _ => .reg finS
  | .inr k => .dma (xS k)

theorem unscopedSems0_eq : (unscopedSems0 c : sProp 𝕄) = semVal (barCell c) 0 := by
  unfold unscopedSems0; rw [bigSep_eq_bigSepL_of_eq [SemLoc.reg barS] (by decide) (by decide)]; rfl

theorem sems0_eq :
    (iprop(Pipeline.ownSems0 (Ix := Unit) (Name := ℕ) (U := UU) (Lvl := ℕ) (Val := Elt F) (τ := τ) osem c ∗ unscopedSems0 c) : sProp 𝕄)
      ⊢ bigSep Finset.univ fun k : CK => semVal (kcell (c, k)) 0 := by
  rw [unscopedSems0_eq, bigSep_univ_sum, bigSep_univ_eq_bigSepL [(0 : Fin 2), 1] (by decide) (by decide)]
  unfold Pipeline.ownSems0
  rw [bigSep_univ_sum, bigSep_univ_eq_bigSepL [()] (by decide) (by decide)]
  simp only [bigSepL_cons_cons, bigSepL_singleton]
  show iprop((_ ∗ _) ∗ _) ⊢ iprop((_ ∗ _) ∗ _)
  iintro ⟨⟨Hf, Hk⟩, Hb⟩
  isplitl [Hf Hb]
  · isplitl [Hb]; · iexact Hb
    iexact Hf
  iexact Hk
theorem sems0_back :
    (bigSep Finset.univ fun k : CK => semVal (kcell (c, k)) 0 : sProp 𝕄)
      ⊢ iprop(unscopedSems0 c ∗ Pipeline.ownSems0 (Ix := Unit) (Name := ℕ) (U := UU) (Lvl := ℕ) (Val := Elt F) (τ := τ) osem c) := by
  rw [unscopedSems0_eq, bigSep_univ_sum, bigSep_univ_eq_bigSepL [(0 : Fin 2), 1] (by decide) (by decide)]
  unfold Pipeline.ownSems0
  rw [bigSep_univ_sum (fun k : OI => (semVal (c.tc, osem k) 0 : sProp 𝕄)), bigSep_univ_eq_bigSepL [()] (by decide) (by decide)]
  simp only [bigSepL_cons_cons, bigSepL_singleton]
  show iprop((_ ∗ _) ∗ _) ⊢ iprop(_ ∗ _ ∗ _)
  iintro ⟨⟨Hb, Hf⟩, Hk⟩
  isplitl [Hb]; · iexact Hb
  isplitl [Hf]; · iexact Hf
  iexact Hk

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to the devices that spend them -/

/-- The partner map of a round, as a permutation. -/
def parE (r : ℕ) : Dev nD ≃ Dev nD := ⟨par r, par r, par_par r, par_par r⟩

/-- A resource per device and index, handed at each index to the partner of that index's round. -/
theorem around {I : Type} [Fintype I] (r : I → ℕ) (Φ : Dev nD → I → sProp 𝕄) :
    (bigSep Finset.univ fun c : Dev nD => bigSep Finset.univ (Φ c)) = bigSep Finset.univ fun c : Dev nD => bigSep Finset.univ fun i => Φ (par (r i) c) i := by
  rw [BI.bigSep_univ_comm, BI.bigSep_univ_comm (fun c i => Φ (par (r i) c) i)]
  exact bigSep_congr fun i _ => bigSep_univ_equiv (parE (r i)) fun c => Φ c i

/-- The tokens a device spends. -/
def payToks : sProp 𝕄 :=
  iprop((bigSep Finset.univ fun p : Fin 2 × Fin 3 => dutyTok ER ((par p.2 c : Thread nD τ), .reg (p.1 : Sem sig)) 0 p.2)
    ∗ (bigSep Finset.univ fun k : KI => dutyTok ER (sCell c k) 0 0) ∗ bigSep Finset.univ fun k : KI => dutyTok ER (vCell (par (rd k) c) k) 0 0)

theorem toks_around : (bigSep Finset.univ fun c : Dev nD => toks (F := F) c) ⊢ (bigSep Finset.univ fun c : Dev nD => payToks (F := F) c : sProp 𝕄) := by
  have h (c : Dev nD) : toks (F := F) c = iprop((bigSep Finset.univ fun p : Fin 2 × Fin 3 => dutyTok ER ((c : Thread nD τ), .reg (p.1 : Sem sig)) 0 p.2)
      ∗ (bigSep Finset.univ fun k : KI => dutyTok ER (sCell c k) 0 0) ∗ bigSep Finset.univ fun k : KI => dutyTok ER (vCell c k) 0 0) := by
    unfold toks; rw [bigSep_univ_sum, bigSep_univ_sum]; rfl
  rw [bigSep_congr fun c _ => h c]
  unfold payToks
  rw [bigSep_sep', bigSep_sep', bigSep_sep', bigSep_sep',
    around (fun p : Fin 2 × Fin 3 => p.2) (fun c p => (dutyTok ER ((c : Thread nD τ), .reg (p.1 : Sem sig)) 0 p.2 : sProp 𝕄)),
    around (fun k : KI => rd k) (fun c k => (dutyTok ER (vCell c k) 0 0 : sProp 𝕄))]

/-- What device `c` alone holds. -/
def linear : sProp 𝕄 := iprop((bigSep Finset.univ fun k : CK => atPos ER (kcell (c, k)) 0 ∅ 0) ∗ payToks (F := F) c)
def G' : sProp 𝕄 := iprop(∃ K, records m ρ K ∗ linear (F := F) c)

theorem with_persistent {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (with_persistent (R := records m ρ K) (Φ := fun c => linear (F := F) c) fun c _ => by
    unfold G'
    iintro ⟨HR, HL⟩
    iexists K
    isplitl [HR] <;> iassumption)
  isplitr
  · unfold records; isplitl; · iexact HI
    iexact HR
  · unfold linear
    iapply (Entails.of_eq (bigSep_sep' Finset.univ (fun c : Dev nD => bigSep Finset.univ fun k : CK => (atPos ER (kcell (c, k)) 0 ∅ 0 : sProp 𝕄)) fun c => payToks (F := F) c).symm)
    isplitl [Hat]; · iexact Hat
    iexact Htk

/-- The global step of the launch. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

def O₀ (c : Dev nD) : CellTallies nD τ sig Unit := owe c 0

theorem sum_owed1 (sm : SemLoc sig) (p : SemLoc sig × Fin 3) :
    ∑ d : Dev nD, owed1 d p ((c : Thread nD τ), sm) () = if p.1 = sm then amt sm else 0 := by
  have h (d : Dev nD) : owed1 d p ((c : Thread nD τ), sm) () = if d = par p.2 c then (if p.1 = sm then amt sm else 0) else 0 := by
    unfold owed1
    by_cases hs : p.1 = sm
    · rw [if_pos hs]
      by_cases hd : d = par p.2 c
      · rw [if_pos hd, hd, par_par, hs, tallyAt_apply, if_pos ⟨rfl, rfl⟩]
      · rw [if_neg hd, tallyAt_ne_cell fun e => hd ?_]; · rfl
        have e1 : c = par p.2 d := congrArg (fun g : GSem nD τ sig => g.1.1) e
        rw [e1, par_par]
    · rw [if_neg hs, ite_self, tallyAt_ne_cell fun e => hs (congrArg Prod.snd e).symm]; rfl
  rw [Finset.sum_congr rfl fun d _ => h d, Finset.sum_ite_eq' Finset.univ (par p.2 c) fun _ => _, if_pos (Finset.mem_univ _)]

theorem sum_owes (sm : SemLoc sig) : ∀ l : List (SemLoc sig × Fin 3),
    ∑ d : Dev nD, owes' d l ((c : Thread nD τ), sm) () = l.countP (fun p => p.1 = sm) * amt sm
  | [] => by simp [owes']
  | p :: l => by
    have h : ∀ d : Dev nD, owes' d (p :: l) ((c : Thread nD τ), sm) () = owes' d l ((c : Thread nD τ), sm) () + owed1 d p ((c : Thread nD τ), sm) () := fun d => rfl
    rw [Finset.sum_congr rfl fun d _ => h d, Finset.sum_add_distrib, sum_owes sm l, sum_owed1, List.countP_cons]
    by_cases hs : p.1 = sm
    · simp [hs, Nat.add_mul]
    · simp [hs]

theorem launch_cell (sm : SemLoc sig) :
    tallyOn ((c : Thread nD τ), sm) (launchCredit (Pipeline.owing O₀) 0 ((c : Thread nD τ), sm))
      = (tallyAt ((c : Thread nD τ), sm) () (owedL.countP (fun p => p.1 = sm) * amt sm) : CellTallies nD τ sig Unit) := by
  unfold tallyAt; refine congrArg _ (Finsupp.ext fun u => ?_); cases u
  rw [Pipeline.launchCredit_owing, Finsupp.single_eq_same]
  exact sum_owes c sm owedL

/-- The cells a device waits on for others. -/
def wS : Fin 2 ⊕ KI → SemLoc sig
  | .inl b => .reg (b : Sem sig)
  | .inr k => .dma (vS k)
theorem wS_inj : Function.Injective wS := by
  intro k k' h
  rcases k with k | k <;> rcases k' with k' | k' <;> simp only [wS] at h
  · injection h with h; rw [h]
  · cases h
  · cases h
  · injection h with h
    have := xS_inj (a₁ := .inr k) (a₂ := .inr k') h
    injection this with this
    rw [this]

theorem count_v (k : KI) : owedL.countP (fun p => p.1 = .dma (vS k)) = 1 := by revert k; decide

def creds : sProp 𝕄 :=
  iprop((cred (tallyAt (barCell c) () 3) ∗ cred (tallyAt (finCell c) () 3)) ∗ bigSep Finset.univ fun k : KI => cred (tallyAt (vCell c k) () (amtK k)))

theorem creds_intro : (Pipeline.launchCred O₀ c : sProp 𝕄) ⊢ creds c := by
  unfold Pipeline.launchCred creds
  refine (BI.bigSep_subset (Finset.subset_univ (Finset.univ.map ⟨wS, wS_inj⟩))).trans ?_
  rw [bigSep_map, bigSep_univ_sum, bigSep_univ_eq_bigSepL [(0 : Fin 2), 1] (by decide) (by decide)]
  simp only [bigSepL_cons_cons, bigSepL_singleton]
  refine BI.sep_mono (BI.sep_mono ?_ ?_) (bigSep_mono fun k _ => ?_)
  · exact Entails.of_eq (congrArg cred ((launch_cell c (.reg barS)).trans (by rw [show owedL.countP (fun p => p.1 = .reg barS) = 3 by decide]; rfl)))
  · exact Entails.of_eq (congrArg cred ((launch_cell c (.reg finS)).trans (by rw [show owedL.countP (fun p => p.1 = .reg finS) = 3 by decide]; rfl)))
  · exact Entails.of_eq (congrArg cred ((launch_cell c (.dma (vS k))).trans (by rw [count_v, amt_vS, Nat.one_mul])))

end Cert.KernelIdeal.Hyper
-- ==== Proof.KernelIdeal.Launch.lean ====
/-
# The launch

The body's proof put under the launch theorem: from any memory with zero counters every device's
result array ends at the computed contents, its arguments unchanged and every counter zero.
-/
module

public import proofs.«01_k».proof.Proof.KernelIdeal.Ghost
public import proofs.«01_k».proof.Proof.Gen.KernelIdeal.Points
public import proofs.«01_k».proof.Proof.Gen.KernelIdeal.Frame
public import Idealize.ShloMosaic.Lib.Pipeline.CollectiveSegs

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
theorem cfg0_N : cfg0.N = 1 := by decide
def t₀ : Fin cfg0.N := ⟨0, by rw [cfg0_N]; decide⟩
theorem fin_N (t : Fin cfg0.N) : t = t₀ := by
  obtain ⟨t, ht⟩ := t; have := cfg0_N; simp only [t₀, Fin.mk.injEq]; omega

/-- The scratch buffers. -/
def scr : sProp 𝕄 := iprop(ANY (F := F) c cc0_scratch0 ∗ ANY (F := F) c cc0_scratch1 ∗ ANY (F := F) c cc0_scratch2 ∗ ANY (F := F) c cc0_scratch3)

def start₀ : sProp 𝕄 := iprop(G' m ρ c ∗ creds (F := F) c ∗ levAts L lv)
def Φ₀ : sProp 𝕄 := iprop(start₀ m ρ c ∗ scr (F := F) c)
def Φ₁ : sProp 𝕄 := iprop(scr (F := F) c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m ρ c
    | ⟨1, _⟩ => stg1 m ρ c
    | ⟨2, _⟩ => stg2 m ρ c
    | ⟨3, _⟩ => stg3 m ρ c
    | ⟨4, _⟩ => stg4 m ρ c
    | ⟨5, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
set_option maxRecDepth 4000 in
def bodyPost : sProp 𝕄 :=
  iprop(Φ₁ (F := F) c ∗ (dats m ρ 0 c).owesAt () t₀.succ
    ∗ stg c cc0_stg0_0 (stg0 m ρ c)
    ∗ stg c cc0_stg1_0 (stg1 m ρ c)
    ∗ stg c cc0_stg2_0 (stg2 m ρ c)
    ∗ stg c cc0_stg3_0 (stg3 m ρ c)
    ∗ stg c cc0_stg4_0 (stg4 m ρ c)
    ∗ stg c cc0_stg5_0 (outAt m ρ c))

/-! ## From the launch's holdings to the body's, and back -/

theorem linear_split : linear (F := F) c ⊢ (iprop(atPos ER (barCell c) 0 ∅ 0 ∗ atPos ER (finCell c) 0 ∅ 0
    ∗ (dutyTok ER ((par (0 : Fin 3) c : Thread nD τ), .reg barS) 0 0 ∗ dutyTok ER ((par (1 : Fin 3) c : Thread nD τ), .reg barS) 0 1 ∗ dutyTok ER ((par (2 : Fin 3) c : Thread nD τ), .reg barS) 0 2)
    ∗ (dutyTok ER ((par (0 : Fin 3) c : Thread nD τ), .reg finS) 0 0 ∗ dutyTok ER ((par (1 : Fin 3) c : Thread nD τ), .reg finS) 0 1 ∗ dutyTok ER ((par (2 : Fin 3) c : Thread nD τ), .reg finS) 0 2)
    ∗ (bigSep Finset.univ fun k : KI => TS (F := F) c k) ∗ bigSep Finset.univ fun k : KI => atPos ER (vCell c k) 0 ∅ 0) : sProp 𝕄) := by
  unfold linear payToks TS
  rw [bigSep_univ_sum, bigSep_univ_sum, bigSep_univ_prod, bigSep_univ_eq_bigSepL [(0 : Fin 2), 1] (by decide) (by decide),
    bigSep_univ_eq_bigSepL [(0 : Fin 2), 1] (by decide) (by decide), bigSep_sep', bigSep_sep']
  simp only [bigSepL_cons_cons, bigSepL_singleton]
  rw [bigSep_univ_eq_bigSepL [(0 : Fin 3), 1, 2] (by decide) (by decide), bigSep_univ_eq_bigSepL [(0 : Fin 3), 1, 2] (by decide) (by decide)]
  simp only [bigSepL_cons_cons, bigSepL_singleton]
  show iprop(((_ ∗ _) ∗ _ ∗ _) ∗ (((_ ∗ _ ∗ _) ∗ _ ∗ _ ∗ _) ∗ _ ∗ _)) ⊢ _
  iintro ⟨⟨⟨Hb, Hf⟩, Hs, Hv⟩, ⟨Tb, Tf⟩, Ts, Tv⟩
  isplitl [Hb]; · iexact Hb
  isplitl [Hf]; · iexact Hf
  isplitl [Tb]; · iexact Tb
  isplitl [Tf]; · iexact Tf
  isplitr [Hv]
  · isplitl [Ts]; · iexact Ts
    isplitl [Tv]; · iexact Tv
    iexact Hs
  iexact Hv

theorem scr_split : scr (F := F) c ⊢ iprop((bigSep Finset.univ fun k : KI => iprop(∃ X, SF (F := F) c k X)) ∗ (recvSlots (F := F) 0 c ∗ recvSlots (F := F) 1 c ∗ recvSlots (F := F) 2 c)) := by
  unfold scr
  iintro ⟨H0, H1, H2, H3⟩
  isplitl [H0 H2]
  · iapply (split_s c); isplitl [H0] <;> iassumption
  iapply (rounds_v c); iapply (split_v c); isplitl [H1] <;> iassumption

theorem scr_join : iprop((bigSep Finset.univ fun k : KI => SF (F := F) c k (CT m ρ c k)) ∗ (bigSep Finset.univ fun k : KI => RV m ρ c k)) ⊢ scr (F := F) c := by
  have hs : (bigSep Finset.univ fun k : KI => SF (F := F) c k (CT m ρ c k)) ⊢ (bigSep Finset.univ fun k : KI => iprop(∃ X, SF (F := F) c k X) : sProp 𝕄) :=
    bigSep_mono fun k _ => own_any c _ _
  have hv : (bigSep Finset.univ fun k : KI => RV m ρ c k) ⊢ (bigSep Finset.univ fun k : KI => slotAny (F := F) c k : sProp 𝕄) :=
    bigSep_mono fun k _ => own_any c _ _
  unfold scr
  iintro ⟨Hs, Hv⟩
  ihave Hs := hs $$ Hs
  ihave Hs := (join_s c) $$ Hs
  ihave Hv := hv $$ Hv
  ihave Hv := (join_v c) $$ Hv
  icases Hs with ⟨H0, H2⟩
  icases Hv with ⟨H1, H3⟩
  isplitl [H0]; · iexact H0
  isplitl [H1]; · iexact H1
  isplitl [H2] <;> iassumption

theorem close (K : Dev nD × CK → ℕ) (k : CK) : iprop(ctx m ρ K ∗ atPos ER (kcell (c, k)) (0 + 1) ∅ 0) ⊢ (|={Set.univ}=> semVal (kcell (c, k)) 0 : sProp 𝕄) := by
  iintro ⟨#HC, Hat⟩
  ihave #HI := (inv_at m ρ K (c, k)) $$ HC
  iapply (Rounds.cell_close ER (Rd m ρ) (Set.mem_univ (K (c, k))) (fun h => h) (R := 0 + 1) (duties_later m ρ (kcell (c, k))))
  isplitr
  · iexact HI
  iexact Hat

theorem close_all (K : Dev nD × CK → ℕ) :
    iprop(ctx m ρ K ∗ atPos ER (barCell c) (0 + 1) ∅ 0 ∗ atPos ER (finCell c) (0 + 1) ∅ 0
        ∗ (bigSep Finset.univ fun k : KI => SD (F := F) c k) ∗ bigSep Finset.univ fun k : KI => VD (F := F) c k)
      ⊢ (|={Set.univ}=> bigSep Finset.univ fun k : CK => semVal (kcell (c, k)) 0 : sProp 𝕄) := by
  have h : iprop(atPos ER (barCell c) (0 + 1) ∅ 0 ∗ atPos ER (finCell c) (0 + 1) ∅ 0
        ∗ (bigSep Finset.univ fun k : KI => SD (F := F) c k) ∗ bigSep Finset.univ fun k : KI => VD (F := F) c k)
      ⊢ (bigSep Finset.univ fun k : CK => atPos ER (kcell (c, k)) (0 + 1) ∅ 0 : sProp 𝕄) := by
    rw [bigSep_univ_sum (fun k : CK => (atPos ER (kcell (c, k)) (0 + 1) ∅ 0 : sProp 𝕄)), bigSep_univ_sum (fun k : KI ⊕ KI => (atPos ER (kcell (c, .inr k)) (0 + 1) ∅ 0 : sProp 𝕄)),
      bigSep_univ_eq_bigSepL [(0 : Fin 2), 1] (by decide) (by decide)]
    simp only [bigSepL_cons_cons, bigSepL_singleton]
    show _ ⊢ iprop((_ ∗ _) ∗ _ ∗ _)
    iintro ⟨Hb, Hf, Hs, Hv⟩
    isplitl [Hb Hf]
    · isplitl [Hb]; · iexact Hb
      iexact Hf
    isplitl [Hs]; · iexact Hs
    iexact Hv
  have h2 : iprop(ctx m ρ K ∗ bigSep Finset.univ fun k : CK => atPos ER (kcell (c, k)) (0 + 1) ∅ 0) ⊢ (|={Set.univ}=> bigSep Finset.univ fun k : CK => semVal (kcell (c, k)) 0 : sProp 𝕄) :=
    (with_persistent (R := ctx m ρ K) fun k _ => close m ρ c K k).trans (bigSep_fupd _ _)
  iintro ⟨#HC, H⟩
  iapply h2
  isplitr
  · iexact HC
  iapply h; iexact H

theorem in_intro : iprop(stg c cc0_stg0_0 (stg0 m ρ c) ∗ stg c cc0_stg1_0 (stg1 m ρ c) ∗ stg c cc0_stg2_0 (stg2 m ρ c) ∗ stg c cc0_stg3_0 (stg3 m ρ c) ∗ stg c cc0_stg4_0 (stg4 m ρ c)) ⊢ IN m ρ c := by
  unfold IN
  iintro ⟨⟨%f0, %h0, H0⟩, ⟨%f1, %h1, H1⟩, ⟨%f2, %h2, H2⟩, ⟨%f3, %h3, H3⟩, ⟨%f4, %h4, H4⟩⟩
  subst h0 h1 h2 h3 h4
  isplitl [H0]; · iexact H0
  isplitl [H1]; · iexact H1
  isplitl [H2]; · iexact H2
  isplitl [H3]; · iexact H3
  iexact H4
theorem stg_intro (b : Ref sig .tc) (X : b.ty.Contents (Elt F)) : ((((c : Thread nD τ).loc b) ↦{fullShare} X) : sProp 𝕄) ⊢ stg c b X := by
  iintro H
  iexists X
  isplitr
  · ipureintro; rfl
  iexact H

theorem post_intro (K : Dev nD × CK → ℕ) : ctx m ρ K ⊢ iprop(post m ρ c -∗ |={Set.univ}=> bodyPost m ρ c) := by
  unfold post bodyPost IN OU OW
  iintro #HC ⟨⟨H0, H1, H2, H3, H4⟩, HU, ⟨%W, HO⟩, Hb, Hf, HS, HV, HSD, HVD⟩
  imod (close_all m ρ c K) $$ [HC Hb Hf HSD HVD] with Hz
  · isplitr; · iexact HC
    isplitl [Hb]; · iexact Hb
    isplitl [Hf]; · iexact Hf
    isplitl [HSD] <;> iassumption
  ihave Hscr := (scr_join m ρ c) $$ [HS HV]
  · isplitl [HS] <;> iassumption
  imodintro
  isplitl [Hscr Hz]
  · unfold Φ₁; isplitl [Hscr] <;> iassumption
  isplitl [HO]
  · unfold Dat.owesAt Pipeline.owesWithin
    iexists W
    isplitr; · ipureintro; exact fun _ _ => Or.inl trivial
    iexact HO
  isplitl [H0]; · iapply (stg_intro c _ _) $$ H0
  isplitl [H1]; · iapply (stg_intro c _ _) $$ H1
  isplitl [H2]; · iapply (stg_intro c _ _) $$ H2
  isplitl [H3]; · iapply (stg_intro c _ _) $$ H3
  isplitl [H4]; · iapply (stg_intro c _ _) $$ H4
  iapply (Entails.of_eq (owns_whole_eq c cc0_stg5_0 (outAt m ρ c))) $$ HU

theorem fetch_0 (t : Fin cfg0.N) : (cfg0.win (0 : Fin 6)).fetch t = true := fetch0_0 t
theorem fetch_1 (t : Fin cfg0.N) : (cfg0.win (1 : Fin 6)).fetch t = true := fetch0_1 t
theorem fetch_2 (t : Fin cfg0.N) : (cfg0.win (2 : Fin 6)).fetch t = true := fetch0_2 t
theorem fetch_3 (t : Fin cfg0.N) : (cfg0.win (3 : Fin 6)).fetch t = true := fetch0_3 t
theorem fetch_4 (t : Fin cfg0.N) : (cfg0.win (4 : Fin 6)).fetch t = true := fetch0_4 t

theorem before_0 (d : _) : (dats m ρ 0 c).before (0 : Fin 6) t₀ d = stg0 m ρ c := by
  unfold Dat.before; rw [if_pos (fetch_0 t₀)]; rfl
theorem before_1 (d : _) : (dats m ρ 0 c).before (1 : Fin 6) t₀ d = stg1 m ρ c := by
  unfold Dat.before; rw [if_pos (fetch_1 t₀)]; rfl
theorem before_2 (d : _) : (dats m ρ 0 c).before (2 : Fin 6) t₀ d = stg2 m ρ c := by
  unfold Dat.before; rw [if_pos (fetch_2 t₀)]; rfl
theorem before_3 (d : _) : (dats m ρ 0 c).before (3 : Fin 6) t₀ d = stg3 m ρ c := by
  unfold Dat.before; rw [if_pos (fetch_3 t₀)]; rfl
theorem before_4 (d : _) : (dats m ρ 0 c).before (4 : Fin 6) t₀ d = stg4 m ρ c := by
  unfold Dat.before; rw [if_pos (fetch_4 t₀)]; rfl
set_option maxRecDepth 4000 in
theorem stgs_intro : iprop((∃ d, stg c cc0_stg0_0 ((dats m ρ 0 c).before (0 : Fin 6) t₀ d)) ∗ (∃ d, stg c cc0_stg1_0 ((dats m ρ 0 c).before (1 : Fin 6) t₀ d))
      ∗ (∃ d, stg c cc0_stg2_0 ((dats m ρ 0 c).before (2 : Fin 6) t₀ d)) ∗ (∃ d, stg c cc0_stg3_0 ((dats m ρ 0 c).before (3 : Fin 6) t₀ d))
      ∗ (∃ d, stg c cc0_stg4_0 ((dats m ρ 0 c).before (4 : Fin 6) t₀ d))) ⊢ IN m ρ c := by
  refine BIBase.Entails.trans ?_ (in_intro m ρ c)
  iintro ⟨⟨%d0, H0⟩, ⟨%d1, H1⟩, ⟨%d2, H2⟩, ⟨%d3, H3⟩, ⟨%d4, H4⟩⟩
  isplitl [H0]
  · iapply (Entails.of_eq (congrArg (stg c cc0_stg0_0) (before_0 m ρ c d0))) $$ H0
  isplitl [H1]
  · iapply (Entails.of_eq (congrArg (stg c cc0_stg1_0) (before_1 m ρ c d1))) $$ H1
  isplitl [H2]
  · iapply (Entails.of_eq (congrArg (stg c cc0_stg2_0) (before_2 m ρ c d2))) $$ H2
  isplitl [H3]
  · iapply (Entails.of_eq (congrArg (stg c cc0_stg3_0) (before_3 m ρ c d3))) $$ H3
  iapply (Entails.of_eq (congrArg (stg c cc0_stg4_0) (before_4 m ρ c d4))) $$ H4

set_option maxRecDepth 4000 in
theorem sound_body : bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0) (fun _ => bodyPost m ρ c) := by
  refine BIBase.Entails.trans ?_ (wp_fupd _ _ _ _ _)
  unfold bodyPre Φ₀ start₀ G' creds
  iintro ⟨⟨⟨⟨%K, Hrec, Hlin⟩, ⟨⟨Cb, Cf⟩, Cv⟩, Hlev⟩, Hscr⟩, Ho, S0, S1, S2, S3, S4, ⟨%d5, ⟨%U, -, HU⟩⟩⟩
  ihave HIN := (stgs_intro m ρ c) $$ [S0 S1 S2 S3 S4]
  · isplitl [S0]; · iexact S0
    isplitl [S1]; · iexact S1
    isplitl [S2]; · iexact S2
    isplitl [S3] <;> iassumption
  ihave #HC := (show iprop(records m ρ K ∗ levAts L lv) ⊢ ctx m ρ K from .rfl) $$ [Hrec Hlev]
  · isplitl [Hrec] <;> iassumption
  ihave Hl := (linear_split c) $$ Hlin
  icases Hl with ⟨Pb, Pf, Tb, Tf, Ts, Pv⟩
  ihave Hs := (scr_split c) $$ Hscr
  icases Hs with ⟨Hs, Hr⟩
  unfold Dat.owesAt Pipeline.owesWithin
  icases Ho with ⟨%W, %hW, HO⟩
  iapply (body m ρ K c U) $$ HC [HIN HU HO Cb Cf Cv Pb Pf Tb Tf Ts Pv Hs Hr] []
  · unfold pre OU OW
    isplitl [HIN]; · iexact HIN
    isplitl [HU]
    · iapply (Entails.of_eq (owns_whole_eq c cc0_stg5_0 U).symm)
      iapply (stg_intro c _ _) $$ HU
    isplitl [HO]; · iexists W; iexact HO
    isplitl [Cb Pb]; · isplitl [Cb] <;> iassumption
    isplitl [Cf Pf]; · isplitl [Cf] <;> iassumption
    isplitl [Tb]; · iexact Tb
    isplitl [Tf]; · iexact Tf
    isplitl [Hr]; · iexact Hr
    isplitl [Hs]; · iexact Hs
    isplitl [Ts]; · iexact Ts
    unfold VV
    iapply (Entails.of_eq (bigSep_sep' Finset.univ (fun k : KI => (cred (tallyAt (vCell c k) () (amtK k)) : sProp 𝕄)) (fun k => atPos ER (vCell c k) 0 ∅ 0)).symm)
    isplitl [Cv] <;> iassumption
  · iintro H
    iapply (post_intro m ρ c K) $$ HC H

set_option maxRecDepth 40000 in
theorem body_obligation : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0) (fun _ => bodyPost m ρ c)
  exact sound_body m ρ c

/-! ## The launch theorem's side conditions -/

theorem osem_inj : Function.Injective osem := by
  intro k k' h
  rcases k with k | k <;> rcases k' with k' | k' <;> simp only [osem] at h
  · rfl
  · cases h
  · cases h
  · injection h with h; rw [xS_inj h]
set_option maxRecDepth 8000 in
theorem ownSemFacts : Pipeline.OwnSemFacts cfg0.spec osem := ⟨by decide, osem_inj, by decide⟩
theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start₀ m ρ c ∗ emp) := by
  iintro ⟨-, Hlev, Hcr, -, HG⟩
  ihave Hc := (creds_intro (F := F) c) $$ Hcr
  imodintro
  unfold start₀
  isplitl
  · isplitl [HG]; · iexact HG
    isplitl [Hc] <;> iassumption
  · iempintro

theorem phi0_intro :
    iprop(start₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr
  iintro ⟨Hr, Hz⟩
  ihave Hz := (sems0_back c) $$ Hz
  icases Hz with ⟨Hb, Ho⟩
  isplitl [Hb]; · iexact Hb
  isplitl [Ho]; · iexact Ho
  iexact Hr

/-- The staging cells lie below everything owed. -/
theorem low : ∀ (w : Fin cfg0.W) (s : Fin (cfg0.win w).nbuf), ∀ p ∈ owedL.drop 0, lvS (.dma ((cfg0.win w).sem s)) < lvS p.1 := by decide

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (low w s)
    · exact mayWait c _ 24 (fun p hp => absurd hp (by show p ∉ ([] : List _); exact List.not_mem_nil))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Hyper
-- ==== Proof.KernelIdeal.Final.lean ====
/-
# The run's outcome

What the arrays hold after a run, by name.
-/
module

public import proofs.«01_k».proof.Proof.KernelIdeal.Launch
public import Idealize.ShloMosaic.Lib.Pipeline.Value

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (c : Dev nD)

theorem blk_emb {s : Shape} {e : EltTy} {cs : CoreSpace} (arr : Memref sig .tc .hbm s e) (o y : Bool)
    (st : Memref sig .tc (.core cs) ⟨s.rank, s.size⟩ e) (sem : DmaSem sig) (h1 : arr.IsWhole) (h2 : st.IsWhole) (j : s.Idx) :
    ((Pipeline.Window.whole arr o y st sem h1 h2).rect (0 : Fin 1)).emb j = j := by
  funext a
  apply Fin.ext
  rw [Rect.emb_apply]
  show 0 * _ + 1 * (j a : ℕ) = j a
  omega

/-- The one block of a window without a grid is its whole array. -/
theorem blk_read {s : Shape} {e : EltTy} {cs : CoreSpace} (arr : Memref sig .tc .hbm s e) (o y : Bool)
    (st : Memref sig .tc (.core cs) ⟨s.rank, s.size⟩ e) (sem : DmaSem sig) (h1 : arr.IsWhole) (h2 : st.IsWhole) (f : arr.view.ty.Contents (Elt F)) :
    ((Pipeline.Window.whole arr o y st sem h1 h2).blk (0 : Fin 1)).view.read (Elt F) f = arr.view.read (Elt F) f := by
  funext j
  show arr.view.read (Elt F) f (((Pipeline.Window.whole arr o y st sem h1 h2).rect (0 : Fin 1)).emb j) = _
  rw [blk_emb]

theorem stg0_eq : stg0 m ρ c = m ((c : Thread nD τ).loc main_arg0) := by
  unfold stg0; exact blk_read (Memref.whole main_arg0) _ _ _ _ _ _ _
theorem stg1_eq : stg1 m ρ c = m ((c : Thread nD τ).loc main_arg1) := by
  unfold stg1; exact blk_read (Memref.whole main_arg1) _ _ _ _ _ _ _
theorem stg2_eq : stg2 m ρ c = m ((c : Thread nD τ).loc main_arg2) := by
  unfold stg2; exact blk_read (Memref.whole main_arg2) _ _ _ _ _ _ _
theorem stg3_eq : stg3 m ρ c = m ((c : Thread nD τ).loc main_arg3) := by
  unfold stg3; exact blk_read (Memref.whole main_arg3) _ _ _ _ _ _ _
theorem stg4_eq : stg4 m ρ c = m ((c : Thread nD τ).loc main_arg4) := by
  unfold stg4; exact blk_read (Memref.whole main_arg4) _ _ _ _ _ _ _

theorem blk_set (i : S2x256x512.Idx) : i ∈ (win0_5.blk (0 : Fin 1)).view.set := by
  have h : (win0_5.rect (0 : Fin 1)).emb i = i := blk_emb (Memref.whole main_v1) _ _ _ _ _ _ i
  exact Finset.mem_map.mpr ⟨i, Finset.mem_univ _, h⟩

/-- The result array ends at the computed contents. -/
theorem finalA_out : finalA m ρ c (5 : Fin 6) = outAt m ρ c :=
  (dats m ρ 0 c).arrAt_eq_of_cover (5 : Fin 6) (outAt m ρ c)
    (fun t _ => by
      rw [fin_N t]
      refine Eq.trans ?_ (blk_read (Memref.whole main_v1) true false (stage0_5 0) (sem0_5 0) (Memref.isWhole_whole _) (hstage0_5 0) (outAt m ρ c)).symm
      rfl)
    (fun i => ⟨t₀, flush0_5 t₀, blk_set i⟩)

/-- The run by name. -/
theorem run_named : θ_run defs (onTc (τ := τ) (main (F := F))) ⟨m, fun _ => 0, ρ⟩ (fun r => (∀ c : Dev nD,
        r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun r h => ⟨fun c => ⟨(h.1 c (5 : Fin 6)).trans (finalA_out m ρ c), (h.1 c (0 : Fin 6)).trans (finalA_in m ρ c (0 : Fin 6) rfl), (h.1 c (1 : Fin 6)).trans (finalA_in m ρ c (1 : Fin 6) rfl), (h.1 c (2 : Fin 6)).trans (finalA_in m ρ c (2 : Fin 6) rfl), (h.1 c (3 : Fin 6)).trans (finalA_in m ρ c (3 : Fin 6) rfl), (h.1 c (4 : Fin 6)).trans (finalA_in m ρ c (4 : Fin 6) rfl)⟩, h.2⟩) (run_main m ρ)

end Cert.KernelIdeal.Hyper
-- ==== Proof.Value.Heads.lean ====
/-
# One head's weights and partial sums

The printed program writes the four heads of the two batches out one by one. Here they are one
function of the head's number, and that function is read at an index over the extended reals.
-/
module

public import proofs.«01_k».proof.Proof.KernelIdeal.Data
public import Idealize.ShloMosaic.Lib.Pointwise

@[expose] public section

set_option maxRecDepth 16384

noncomputable section

namespace Cert.KernelIdeal.Hyper

open Cert.KernelIdeal Cert.KernelIdeal.Gen

open Idealize.ShloMosaic
open Idealize.ShloMosaic.TcCoe

section Generic

variable {F : FTy → Type} [FloatOps F] [Named F]

theorem head_slices (h : Fin 4) : S256x256.Slices ![0, 64 * (h : ℕ)] S256x64 := by
  revert h; decide

/-- The queries of one batch, all heads side by side. -/
def qAll (w : FVec F S512x256 .bf16) (x : Vec F S1x256x512 .bf16) : FVec F S256x256 .f32 :=
  matmul dot_S256x512_S512x256_S256x256_1_0_0_1_n_n none (shapeCast S256x512 x shapeCasts_S1x256x512_S256x512 : FVec F S256x512 .bf16) w
    (constant S256x256 .f32 0x00000000#32)

/-- The weights of head `h`. -/
def headW (h : Fin 4) (M : IVec S256x256 1) (q : FVec F S256x256 .f32) (k : Vec F S1x256x4x64 .bf16) : FVec F S256x256 .bf16 :=
  truncf .bf16 (select M (exp2 (mulf
    (matmul dot_S256x64_S256x64_S256x256_1_1_0_0_n_n none
      (truncf .bf16 (extractStridedSlice S256x64 ![0, 64 * (h : ℕ)] q (head_slices h)) bitsLt_bf16_f32)
      (extractStridedSlice S256x64 ![0, 64 * (h : ℕ)] (shapeCast S256x256 (shapeCast S256x4x64 k shapeCasts_S1x256x4x64_S256x4x64) shapeCasts_S256x4x64_S256x256 : FVec F S256x256 .bf16) (head_slices h))
      (constant S256x256 .f32 0x00000000#32))
    (broadcast S256x256 (Named.named κ "scale" 0x3E38AA3B#32 : F .f32))))
    (broadcast S256x256 (Scalar.ofBits .f32 0x00000000#32 : F .f32))) bitsLt_bf16_f32

/-- The numerators of head `h`. -/
def headN (h : Fin 4) (w : FVec F S256x256 .bf16) (v : Vec F S1x256x4x64 .bf16) : FVec F S1x1x1x256x64 .bf16 :=
  shapeCast S1x1x1x256x64 (truncf .bf16 (matmul dot_S256x256_S256x64_S256x64_1_0_0_1_n_n none w
      (extractStridedSlice S256x64 ![0, 64 * (h : ℕ)] (shapeCast S256x256 (shapeCast S256x4x64 v shapeCasts_S1x256x4x64_S256x4x64) shapeCasts_S256x4x64_S256x256 : FVec F S256x256 .bf16) (head_slices h))
      (constant S256x64 .f32 0x00000000#32)) bitsLt_bf16_f32) shapeCasts_S256x64_S1x1x1x256x64

/-- The denominators of a head, in eight equal rows. -/
def headD (w : FVec F S256x256 .bf16) : FVec F S1x1x8x256 .f32 :=
  shapeCast S1x1x8x256 (matmul dot_S8x256_S256x256_S8x256_1_1_0_0_n_n none (on8 : FVec F S8x256 .bf16) w (constant S8x256 .f32 0x00000000#32)) shapeCasts_S8x256_S1x1x8x256

variable (m : (ℓ : Loc nD τ sig) → Buf (Elt F) ℓ) (ρ : Dev nD → PrngReg)

theorem numH_eq (c : Dev nD) (b : Fin 2) (h : Fin 4) :
    numH m ρ c b h = headN h (headW h (mk c) (qAll (ldwq m ρ c) (ldx m ρ b c)) (ldk m ρ b c)) (ldv m ρ b c) := by
  have hw : wq m ρ c = ldwq m ρ c := by
    unfold wq k0_pay2; funext i; pointwise
  unfold numH
  rw [hw]
  fin_cases b <;> fin_cases h <;> rfl

theorem denH_eq (c : Dev nD) (b : Fin 2) (h : Fin 4) :
    denH m ρ c b h = headD (headW h (mk c) (qAll (ldwq m ρ c) (ldx m ρ b c)) (ldk m ρ b c)) := by
  have hw : wq m ρ c = ldwq m ρ c := by
    unfold wq k0_pay2; funext i; pointwise
  unfold denH
  rw [hw]
  fin_cases b <;> fin_cases h <;> rfl

end Generic

/-- The scale, over the extended reals. -/
def sc : EReal := (((8 * Real.log 2)⁻¹ : ℝ) : EReal)

theorem headW_at (h : Fin 4) (M : IVec S256x256 1) (q : FVec Ideal S256x256 .f32) (k : FVec Ideal S1x256x4x64 .bf16) (i j : Fin 256) :
    headW h M q k (ix2 i j) = Scalar.select (M (ix2 i j))
      (Ideal.exp2 ((∑ d : Fin 64, q (ix2 i ⟨64 * (h : ℕ) + d, by omega⟩) * k (ix4 0 j h d)) * sc)) 0 := by
  pointwise [headW]
  rfl

theorem headN_at (h : Fin 4) (w : FVec Ideal S256x256 .bf16) (v : FVec Ideal S1x256x4x64 .bf16) (i : Fin 256) (d : Fin 64) :
    headN h w v (ix5 0 0 0 i d) = ∑ j : Fin 256, w (ix2 i j) * v (ix4 0 j h d) := by
  pointwise [headN]

theorem headD_at (w : FVec Ideal S256x256 .bf16) (e : Fin 8) (i : Fin 256) :
    headD w (ix4 0 0 e i) = ∑ j : Fin 256, w (ix2 i j) := by
  pointwise [headD, on8, k0_pay3]

theorem qAll_at (w : FVec Ideal S512x256 .bf16) (x : FVec Ideal S1x256x512 .bf16) (i n : Fin 256) :
    qAll w x (ix2 i n) = ∑ e : Fin 512, x (ix3 0 i e) * w (ix2 e n) := by
  pointwise [qAll]

end Cert.KernelIdeal.Hyper
-- ==== Proof.Value.Slots.lean ====
/-
# What a device loads, and its slots after each round, at an index
-/
module

public import proofs.«01_k».proof.Proof.KernelIdeal.Final
public import proofs.«01_k».proof.Proof.Value.Heads
public import Idealize.ShloMosaic.Lib.Pointwise

@[expose] public section

set_option maxRecDepth 16384

noncomputable section

namespace Cert.KernelIdeal.Hyper

open Cert.KernelIdeal Cert.KernelIdeal.Gen

open Idealize.ShloMosaic
open Idealize.ShloMosaic.TcCoe

variable (m : (ℓ : Loc nD τ sig) → Buf (Elt Ideal) ℓ) (ρ : Dev nD → PrngReg)

/-- The arguments, as arrays of extended reals. -/
abbrev aX (c : Dev nD) : FVec Ideal S2x256x512 .bf16 := m ((c : Thread nD τ).loc main_arg0)
abbrev aWq (c : Dev nD) : FVec Ideal S512x256 .bf16 := m ((c : Thread nD τ).loc main_arg1)
abbrev aK (c : Dev nD) : FVec Ideal S2x256x4x64 .bf16 := m ((c : Thread nD τ).loc main_arg2)
abbrev aV (c : Dev nD) : FVec Ideal S2x256x4x64 .bf16 := m ((c : Thread nD τ).loc main_arg3)
abbrev aWo (c : Dev nD) : FVec Ideal S256x512 .bf16 := m ((c : Thread nD τ).loc main_arg4)

theorem unit_idx_val {s : Shape} (off size : Fin s.rank → ℕ) (inb : ∀ a, off a + size a ≤ s.size a)
    (x : (Rect.unit off size inb).shape.Idx) (a : Fin s.rank) : ((Rect.unit off size inb).idx x a : ℕ) = off a + x a := by
  show off a + 1 * (x a : ℕ) = _
  rw [one_mul]

theorem ldx_at (b : Fin 2) (c : Dev nD) (i : Fin 256) (e : Fin 512) : ldx m ρ b c (ix3 0 i e) = aX m c (ix3 b i e) := by
  unfold ldx; rw [stg0_eq, View.readAt_apply]
  refine congrArg (aX m c) (funext fun a => Fin.ext ?_)
  refine (unit_idx_val _ _ _ _ _).trans ?_
  fin_cases a <;> simp [ix3]
theorem ldwq_at (c : Dev nD) (e : Fin 512) (n : Fin 256) : ldwq m ρ c (ix2 e n) = aWq m c (ix2 e n) := by
  unfold ldwq; rw [stg1_eq, View.readAt_apply]
  refine congrArg (aWq m c) (funext fun a => Fin.ext ?_)
  refine (unit_idx_val _ _ _ _ _).trans ?_
  fin_cases a <;> simp [ix2]
theorem ldk_at (b : Fin 2) (c : Dev nD) (j : Fin 256) (h : Fin 4) (d : Fin 64) : ldk m ρ b c (ix4 0 j h d) = aK m c (ix4 b j h d) := by
  unfold ldk; rw [stg2_eq, View.readAt_apply]
  refine congrArg (aK m c) (funext fun a => Fin.ext ?_)
  refine (unit_idx_val _ _ _ _ _).trans ?_
  fin_cases a <;> simp [ix4]
theorem ldv_at (b : Fin 2) (c : Dev nD) (j : Fin 256) (h : Fin 4) (d : Fin 64) : ldv m ρ b c (ix4 0 j h d) = aV m c (ix4 b j h d) := by
  unfold ldv; rw [stg3_eq, View.readAt_apply]
  refine congrArg (aV m c) (funext fun a => Fin.ext ?_)
  refine (unit_idx_val _ _ _ _ _).trans ?_
  fin_cases a <;> simp [ix4]
theorem ldwo_at (c : Dev nD) (n : Fin 256) (o : Fin 512) : ldwo m ρ c (ix2 n o) = aWo m c (ix2 n o) := by
  unfold ldwo; rw [stg4_eq, View.readAt_apply]
  refine congrArg (aWo m c) (funext fun a => Fin.ext ?_)
  refine (unit_idx_val _ _ _ _ _).trans ?_
  fin_cases a <;> simp [ix2]

theorem nP_emb (e : Fin 2) (i : Fin 256) (d : Fin 64) :
    (nP e).emb (ix5 0 0 0 i d) = (ix5 0 0 0 i ⟨64 * (e : ℕ) + d, by omega⟩ : S1x1x1x256x128.Idx) := by
  funext a; apply Fin.ext
  refine (unit_idx_val _ _ _ _ _).trans ?_
  fin_cases a <;> simp [ix5]
theorem dP_emb (h : Fin 4) (e : Fin 8) (i : Fin 256) :
    (dP h).emb (ix4 0 0 e i) = (ix4 0 0 e ⟨256 * (h : ℕ) + i, by omega⟩ : S1x1x8x1024.Idx) := by
  funext a; apply Fin.ext
  refine (unit_idx_val _ _ _ _ _).trans ?_
  fin_cases a <;> simp [ix4]

theorem NX_zero_at (b hp : Fin 2) (c : Dev nD) (i : Fin 256) (e : Fin 2) (d : Fin 64) :
    NX m ρ 0 b hp c (ix5 0 0 0 i ⟨64 * (e : ℕ) + d, by omega⟩) = numH m ρ c b ⟨2 * hp + e, by omega⟩ (ix5 0 0 0 i d) := by
  unfold NX fillN
  rw [← nP_emb]
  fin_cases e
  · rw [Rect.overlay_of_not_mem]
    · exact Rect.overlay_emb _ _ _ _
    · intro h
      have := (Rect.mem_set_unit.mp h) 4
      rw [nP_emb] at this
      simp [ix5] at this
      omega
  · exact Rect.overlay_emb _ _ _ _

theorem DX_zero_at (b : Fin 2) (c : Dev nD) (e : Fin 8) (h : Fin 4) (i : Fin 256) :
    DX m ρ 0 b c (ix4 0 0 e ⟨256 * (h : ℕ) + i, by omega⟩) = denH m ρ c b h (ix4 0 0 e i) := by
  have hn : ∀ h' : Fin 4, (h : ℕ) < h' → (dP h).emb (ix4 0 0 e i) ∉ (dP h').set := by
    intro h' hlt hm
    rw [mem_dP, dP_emb] at hm
    simp [ix4] at hm
    omega
  unfold DX fillD
  rw [← dP_emb]
  fin_cases h
  · rw [Rect.overlay_of_not_mem _ _ _ (hn 3 (by decide)), Rect.overlay_of_not_mem _ _ _ (hn 2 (by decide)), Rect.overlay_of_not_mem _ _ _ (hn 1 (by decide))]
    exact Rect.overlay_emb _ _ _ _
  · rw [Rect.overlay_of_not_mem _ _ _ (hn 3 (by decide)), Rect.overlay_of_not_mem _ _ _ (hn 2 (by decide))]
    exact Rect.overlay_emb _ _ _ _
  · rw [Rect.overlay_of_not_mem _ _ _ (hn 3 (by decide))]
    exact Rect.overlay_emb _ _ _ _
  · exact Rect.overlay_emb _ _ _ _

theorem NX_succ_at (r : ℕ) (b hp : Fin 2) (c : Dev nD) (i : Fin 256) (l : Fin 128) :
    NX m ρ (r + 1) b hp c (ix5 0 0 0 i l) = (NX m ρ r b hp c (ix5 0 0 0 i l) + NX m ρ r b hp (par r c) (ix5 0 0 0 i l) : EReal) := by
  show k0_pay36 _ _ _ = _
  pointwise [k0_pay36]
theorem DX_succ_at (r : ℕ) (b : Fin 2) (c : Dev nD) (e : Fin 8) (l : Fin 1024) :
    DX m ρ (r + 1) b c (ix4 0 0 e l) = (DX m ρ r b c (ix4 0 0 e l) + DX m ρ r b (par r c) (ix4 0 0 e l) : EReal) := by
  show k0_pay42 _ _ _ = _
  pointwise [k0_pay42]

/-- The three rounds and the last addition reach all eight devices, each once. -/
theorem sum_rounds {A : Type} [AddCommMonoid A] (f : Dev nD → A) (c : Dev nD) :
    ((f c + f (par 0 c)) + (f (par 1 c) + f (par 0 (par 1 c))))
      + ((f (par 2 c) + f (par 0 (par 2 c))) + (f (par 1 (par 2 c)) + f (par 0 (par 1 (par 2 c))))) = ∑ c' : Dev nD, f c' := by
  have e : ∀ c : Dev nD, ([c, par 0 c, par 1 c, par 0 (par 1 c), par 2 c, par 0 (par 2 c), par 1 (par 2 c), par 0 (par 1 (par 2 c))]
      : List (Fin 8)).Perm (List.finRange 8) := by decide
  have h := ((e c).map f).sum_eq
  rw [show (∑ c' : Dev nD, f c') = ∑ c' : Fin 8, f c' from rfl, Fin.sum_univ_def, ← h]
  simp [add_assoc]

end Cert.KernelIdeal.Hyper
-- ==== Proof.Value.Out.lean ====
/-
# The output block at an index

A row of the output is the product of the row's context, four heads side by side, with the output weights. The two
batches are printed apart; here they are one function.
-/
module

public import proofs.«01_k».proof.Proof.Value.Slots

@[expose] public section

set_option maxRecDepth 16384

noncomputable section

namespace Cert.KernelIdeal.Hyper

open Cert.KernelIdeal Cert.KernelIdeal.Gen

open Idealize.ShloMosaic
open Idealize.ShloMosaic.TcCoe

section Generic

variable {F : FTy → Type} [FloatOps F] [Named F]

/-- One over the sum of two halves of the denominators. -/
def recip (a b : Vec F S1x1x8x1024 .f32) : FVec F S8x1024 .f32 :=
  divf (broadcast S8x1024 (Scalar.ofBits .f32 0x3F800000#32 : F .f32))
    (addf (shapeCast S8x1024 a shapeCasts_S1x1x8x1024_S8x1024) (shapeCast S8x1024 b shapeCasts_S1x1x8x1024_S8x1024))

/-- The sum of two halves of the numerators. -/
def nSum (a b : Vec F S1x1x1x256x128 .bf16) : FVec F S256x128 .f32 :=
  addf (extf .f32 (shapeCast S256x128 a shapeCasts_S1x1x1x256x128_S256x128 : FVec F S256x128 .bf16) bitsLt_bf16_f32)
    (extf .f32 (shapeCast S256x128 b shapeCasts_S1x1x1x256x128_S256x128 : FVec F S256x128 .bf16) bitsLt_bf16_f32)

theorem row_slices (hp e : Fin 2) : S8x1024.Slices ![0, 512 * (hp : ℕ) + 256 * (e : ℕ)] S8x256 := by
  revert hp e; decide

theorem half_slices (e : Fin 2) : S256x128.Slices ![0, 64 * (e : ℕ)] S256x64 := by
  revert e; decide

/-- The context of one head. -/
def headC (hp e : Fin 2) (R : FVec F S8x1024 .f32) (S : FVec F S256x128 .f32) : FVec F S256x64 .bf16 :=
  truncf .bf16 (mulf (extractStridedSlice S256x64 ![0, 64 * (e : ℕ)] S (half_slices e))
    (broadcastTo S256x64 (extractStridedSlice S256x1 ![0, 0]
      (transpose S256x8 [1, 0] (extractStridedSlice S8x256 ![0, 512 * (hp : ℕ) + 256 * (e : ℕ)] R (row_slices hp e)) transposes_S8x256_p1_0_S256x8)
      slices_S256x8_o0_0_S256x1) broadcasts_S256x1_S256x64)) bitsLt_bf16_f32

/-- The four heads side by side. -/
def ctxK (R : FVec F S8x1024 .f32) (S S' : FVec F S256x128 .f32) : FVec F S256x256 .bf16 :=
  concatenate S256x256 1 [⟨S256x64, headC 0 0 R S⟩, ⟨S256x64, headC 0 1 R S⟩, ⟨S256x64, headC 1 0 R S'⟩, ⟨S256x64, headC 1 1 R S'⟩]
    concatenates_S256x64_S256x64_S256x64_S256x64_S256x256_d1

/-- A batch of the output. -/
def outK (C : FVec F S256x256 .bf16) (wo : Vec F S256x512 .bf16) : FVec F S1x256x512 .f32 :=
  shapeCast S1x256x512 (matmul dot_S256x256_S256x512_S256x512_1_0_0_1_n_n none C
    (shapeCast S256x512 wo shapeCasts_S256x512_S256x512 : FVec F S256x512 .bf16) (constant S256x512 .f32 0x00000000#32)) shapeCasts_S256x512_S1x256x512

variable (m : (ℓ : Loc nD τ sig) → Buf (Elt F) ℓ) (ρ : Dev nD → PrngReg)

/-- The context of batch `b` on device `c`. -/
def ctxB (b : Fin 2) (c : Dev nD) : FVec F S256x256 .bf16 :=
  ctxK (recip (DX m ρ 2 b c) (DX m ρ 2 b (par 2 c))) (nSum (NX m ρ 2 b 0 c) (NX m ρ 2 b 0 (par 2 c)))
    (nSum (NX m ρ 2 b 1 c) (NX m ρ 2 b 1 (par 2 c)))

theorem o0_eq (c : Dev nD) : o0 m ρ c = outK (ctxB m ρ 0 c) (ldwo m ρ c) := rfl
theorem o1_eq (c : Dev nD) : o1 m ρ c = outK (ctxB m ρ 1 c) (ldwo m ρ c) := rfl

theorem xR_emb (b : Fin 2) (i : Fin 256) (o : Fin 512) :
    (xR b).emb (ix3 0 i o) = (ix3 b i o : S2x256x512.Idx) := by
  funext a; apply Fin.ext
  refine (unit_idx_val _ _ _ _ _).trans ?_
  fin_cases a <;> simp [ix3]

theorem outAt_eq (c : Dev nD) (b : Fin 2) (i : Fin 256) (o : Fin 512) :
    outAt m ρ c (ix3 b i o) = outK (ctxB m ρ b c) (ldwo m ρ c) (ix3 0 i o) := by
  unfold outAt fillO
  rw [← xR_emb]
  fin_cases b
  · rw [Rect.overlay_of_not_mem _ _ _ (by rw [mem_xR, xR_emb]; exact Nat.zero_ne_one)]
    exact (Rect.overlay_emb _ _ _ _).trans (congrFun (o0_eq m ρ c) _)
  · exact (Rect.overlay_emb _ _ _ _).trans (congrFun (o1_eq m ρ c) _)

end Generic

theorem recip_at (a b : FVec Ideal S1x1x8x1024 .f32) (e : Fin 8) (l : Fin 1024) :
    (recip a b : FVec Ideal S8x1024 .f32) (ix2 e l) = Ideal.div 1 (a (ix4 0 0 e l) + b (ix4 0 0 e l) : EReal) := by
  pointwise [recip]

theorem nSum_at (a b : FVec Ideal S1x1x1x256x128 .bf16) (i : Fin 256) (l : Fin 128) :
    (nSum a b : FVec Ideal S256x128 .f32) (ix2 i l) = (a (ix5 0 0 0 i l) + b (ix5 0 0 0 i l) : EReal) := by
  pointwise [nSum]

theorem headC_at (hp e : Fin 2) (R : FVec Ideal S8x1024 .f32) (S : FVec Ideal S256x128 .f32) (i : Fin 256) (d : Fin 64) :
    headC hp e R S (ix2 i d) = S (ix2 i ⟨64 * (e : ℕ) + d, by omega⟩) * R (ix2 0 ⟨512 * (hp : ℕ) + 256 * (e : ℕ) + i, by omega⟩) := by
  pointwise [headC]

theorem ctxK_at (hp e : Fin 2) (R : FVec Ideal S8x1024 .f32) (S S' : FVec Ideal S256x128 .f32) (i : Fin 256) (d : Fin 64) :
    ctxK R S S' (ix2 i ⟨128 * (hp : ℕ) + 64 * (e : ℕ) + d, by omega⟩) = headC hp e R (![S, S'] hp) (ix2 i d) := by
  fin_cases hp <;> fin_cases e <;> pointwise [ctxK]
  · rw [dif_neg (by omega), dif_neg (by omega), dif_pos (by omega)]
    congr 3; omega
  · rw [dif_neg (by omega), dif_neg (by omega), dif_neg (by omega)]
    congr 3; omega

theorem outK_at (C : FVec Ideal S256x256 .bf16) (wo : FVec Ideal S256x512 .bf16) (i : Fin 256) (o : Fin 512) :
    outK C wo (ix3 0 i o) = ∑ n : Fin 256, C (ix2 i n) * wo (ix2 n o) := by
  pointwise [outK]

end Cert.KernelIdeal.Hyper
-- ==== Proof.Value.Mask.lean ====
/-
# The mask

Which pairs of a query and a key are scored, as the words both programs compute.
-/
module

public import proofs.«01_k».proof.Proof.KernelIdeal.Data
public import Idealize.ShloMosaic.Lib.Pointwise

@[expose] public section

set_option maxRecDepth 16384

noncomputable section

namespace Cert.KernelIdeal.Hyper

open Cert.KernelIdeal Cert.KernelIdeal.Gen

open Idealize.ShloMosaic
open Idealize.ShloMosaic.TcCoe

/-- The bit of query `i` and key `j`: at most 128 apart, or one of the two among the first 32. -/
def bit (i j : ℕ) : BitVec 1 :=
  IntOp.ori (IntOp.cmpi .sle (IntOp.absi (IntOp.subi (BitVec.ofNat 32 i) (BitVec.ofNat 32 j))) 128#32)
    (IntOp.ori (IntOp.cmpi .slt (BitVec.ofNat 32 j) 32#32) (IntOp.cmpi .slt (BitVec.ofNat 32 i) 32#32))

theorem bit_zero (i : ℕ) : bit i 0 = 1#1 := by
  unfold bit
  have : IntOp.cmpi .slt (BitVec.ofNat 32 0) 32#32 = 1#1 := by decide
  rw [this]
  generalize IntOp.cmpi .sle _ _ = a
  generalize IntOp.cmpi .slt _ _ = b
  revert a b; decide

theorem mk_at (c : Dev nD) (i j : Fin 256) : mk c (ix2 i j) = bit i (256 * (c : ℕ) + j) := by
  unfold mk
  pointwise [k0_pay1]
  have e : ∀ c : Dev nD, Scalar.muli (Scalar.remsi (Scalar.divsi c.word 1#32) 8#32) 256#32 = BitVec.ofNat 32 (256 * (c : ℕ)) := by decide
  have ej : IntOp.addi (BitVec.ofNat 32 (j : ℕ)) (BitVec.ofNat 32 (256 * (c : ℕ))) = BitVec.ofNat 32 (256 * (c : ℕ) + j) := by
    rw [Nat.add_comm, BitVec.ofNat_add]; rfl
  rw [e, ej]
  unfold bit
  generalize IntOp.cmpi .sle _ _ = a
  generalize IntOp.cmpi .slt (BitVec.ofNat 32 (256 * (c : ℕ) + j)) _ = b
  generalize IntOp.cmpi .slt _ _ = b'
  revert a b b'; decide

end Cert.KernelIdeal.Hyper
-- ==== Proof.Value.Ref.lean ====
/-
# The reference, stage by stage

The reference's value is one composed term. Here it is cut into the mask, the scores, their exponentials,
the weights and the context, and each is read at an index over the extended reals.
-/
module

public import proofs.«01_k».proof.Proof.Gen.ReferenceIdeal.Run
public import proofs.«01_k».proof.Proof.Value.Mask
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe

abbrev FX := FVec Ideal S2x256x512 .bf16
abbrev FQ := FVec Ideal S512x256 .bf16
abbrev FK := FVec Ideal S2x2048x4x64 .bf16
abbrev FO := FVec Ideal S256x512 .bf16
abbrev FS := FVec Ideal S2x4x256x2048 .f32

/-- The mask, a row for each query. -/
def maskV : IVec S256x2048 1 :=
  ori (cmpi .sle (absi (subi (broadcastInDim S256x2048 ![0, 1] bcast_S256x1_S256x2048_0_1 (broadcastInDim S256x1 ![0] bcast_S256_S256x1_0 (iotaInDim S256 32 0))) (broadcastInDim S256x2048 ![0, 1] bcast_S1x2048_S256x2048_0_1 (broadcastInDim S1x2048 ![1] bcast_S2048_S1x2048_1 (iotaInDim S2048 32 0))))) (broadcastInDim S256x2048 ![] bcast_S_S256x2048 (constantI S_ 32 128#32))) (ori (broadcastInDim S256x2048 ![0, 1] bcast_S1x2048_S256x2048_0_1 (cmpi .slt (broadcastInDim S1x2048 ![1] bcast_S2048_S1x2048_1 (iotaInDim S2048 32 0)) (broadcastInDim S1x2048 ![] bcast_S_S1x2048 (constantI S_ 32 32#32)))) (broadcastInDim S256x2048 ![0, 1] bcast_S256x1_S256x2048_0_1 (cmpi .slt (broadcastInDim S256x1 ![0] bcast_S256_S256x1_0 (iotaInDim S256 32 0)) (broadcastInDim S256x1 ![] bcast_S_S256x1 (constantI S_ 32 32#32)))))

/-- The bits of the rows that keep a key. -/
def keepV : IVec S256 1 := Host.reduce IntOp.ori maskV (constantI S_ 1 0#1) reducesTo_S256x2048_S256_d1 h_S_

/-- The scores, before the mask. -/
def scoreV (X : FX) (Wq : FQ) (K : FK) : FS :=
  mulf (extf .f32 (truncf .bf16 (Host.dotGeneral dot_S2x256x4x64_S2x2048x4x64_S2x4x256x2048_3_3_1_1_02_02 none (shapeCast _ (truncf .bf16 (Host.dotGeneral dot_S2x256x512_S512x256_S2x256x256_2_0_01_1_n_n none X Wq) bitsLt_bf16_f32) shapeCasts_S2x256x256_S2x256x4x64) K : FS) bitsLt_bf16_f32) bitsLt_bf16_f32) (broadcastInDim S2x4x256x2048 ![] bcast_S_S2x4x256x2048 (constant S_ .f32 0x3E000000#32))

/-- The scores under the mask. -/
def maskedV (S : FS) : FS :=
  select (broadcastInDim S2x4x256x2048 ![0, 1, 2, 3] bcast_S1x1x256x2048_S2x4x256x2048_0_1_2_3 (broadcastInDim S1x1x256x2048 ![2, 3] bcast_S256x2048_S1x1x256x2048_2_3 maskV)) S (broadcastInDim S2x4x256x2048 ![] bcast_S_S2x4x256x2048 (id (constant S_ .f32 0xFF800000#32)))

/-- The exponentials of what exceeds each row's greatest score. -/
def expV (S : FS) : FS :=
  Host.exp (subf S (broadcastInDim S2x4x256x2048 ![0, 1, 2, 3] bcast_S2x4x256x1_S2x4x256x2048_0_1_2_3 (broadcastInDim S2x4x256x1 ![0, 1, 2] bcast_S2x4x256_S2x4x256x1_0_1_2 (Host.reduce FloatOps.maximumf S (constant S_ .f32 0xFF800000#32) reducesTo_S2x4x256x2048_S2x4x256_d3 h_S_))))

/-- The weights: each row of exponentials over its sum. -/
def weightV (E : FS) : FS :=
  select (broadcastInDim S2x4x256x2048 ![0, 1, 2, 3] bcast_S1x1x256x1_S2x4x256x2048_0_1_2_3 (broadcastInDim S1x1x256x1 ![2] bcast_S256_S1x1x256x1_2 keepV)) (Host.divf E (broadcastInDim S2x4x256x2048 ![0, 1, 2, 3] bcast_S2x4x256x1_S2x4x256x2048_0_1_2_3 (select (broadcastInDim S2x4x256x1 ![0, 1, 2, 3] bcast_S1x1x256x1_S2x4x256x1_0_1_2_3 (broadcastInDim S1x1x256x1 ![2] bcast_S256_S1x1x256x1_2 keepV)) (broadcastInDim S2x4x256x1 ![0, 1, 2] bcast_S2x4x256_S2x4x256x1_0_1_2 (Host.reduceAdd E (constant S_ .f32 0x00000000#32) reducesTo_S2x4x256x2048_S2x4x256_d3 h_S_)) (broadcastInDim S2x4x256x1 ![] bcast_S_S2x4x256x1 (id (constant S_ .f32 0x3F800000#32)))))) (broadcastInDim S2x4x256x2048 ![] bcast_S_S2x4x256x2048 (id (constant S_ .f32 0x00000000#32)))

/-- The context of each query, heads side by side. -/
def ctxV (V : FK) (W : FS) : FVec Ideal S2x256x256 .f32 :=
  shapeCast _ (transpose S2x256x4x64 [0, 3, 1, 2] (Host.dotGeneral dot_S2x2048x4x64_S2x4x256x2048_S2x4x64x256_1_3_3_2_02_01 none V W) transposes_S2x4x64x256_S2x256x4x64_0_3_1_2) shapeCasts_S2x256x4x64_S2x256x256

/-- The result. -/
def outV (C : FVec Ideal S2x256x256 .f32) (Wo : FO) : FVec Ideal S2x256x512 .f32 :=
  Host.dotGeneral dot_S2x256x256_S256x512_S2x256x512_2_0_01_1_n_n none C Wo

theorem res_eq (m : (ℓ : Loc nD τ sig) → Buf (Elt Ideal) ℓ) (c : Dev nD) :
    Value.res_main_v45 m c = outV (ctxV (m ((c.tc : Thread nD τ).loc main_arg3)) (weightV (expV (maskedV (scoreV
      (m ((c.tc : Thread nD τ).loc main_arg0)) (m ((c.tc : Thread nD τ).loc main_arg1)) (m ((c.tc : Thread nD τ).loc main_arg2)))))))
      (m ((c.tc : Thread nD τ).loc main_arg4)) := rfl

/-- The literal of the reference's scale is an eighth. -/
theorem eighth : Ideal.ofBits .f32 0x3E000000#32 = ((1 / 8 : ℝ) : EReal) := by
  simp [Ideal.ofBits, Ideal.ieee, -EReal.coe_mul]; norm_num

/-- The literal of a hidden score is minus infinity. -/
theorem neg_inf : Ideal.ofBits .f32 0xFF800000#32 = ⊥ := by
  simp [Ideal.ofBits, Ideal.ieee]

theorem maskV_at (i : Fin 256) (j : Fin 2048) : maskV (ix2 i j) = Cert.KernelIdeal.Hyper.bit i j := by
  pointwise [maskV]
  rfl

theorem ori_one_left (x : BitVec 1) : IntOp.ori 1#1 x = 1#1 := by
  revert x; decide

theorem keepV_at (i : Fin 256) : keepV (ix1 i) = 1#1 := by
  pointwise [keepV]
  rw [← Finset.insert_erase (Finset.mem_univ (0 : Fin 2048)), Finset.fold_insert (Finset.notMem_erase _ _), maskV_at]
  exact (congrArg (IntOp.ori · _) (Cert.KernelIdeal.Hyper.bit_zero i)).trans (ori_one_left _)

theorem scoreV_at (X : FX) (Wq : FQ) (K : FK) (b : Fin 2) (h : Fin 4) (i : Fin 256) (j : Fin 2048) :
    scoreV X Wq K (ix4 b h i j) = (∑ d : Fin 64, (∑ e : Fin 512, X (ix3 b i e) * Wq (ix2 e ⟨64 * (h : ℕ) + d, by omega⟩)) *
      K (ix4 b j h d)) * ((1 / 8 : ℝ) : EReal) := by
  pointwise [scoreV]
  rw [eighth]
  simp only [mul_comm 64 (h : ℕ)]

theorem maskedV_at (S : FS) (b : Fin 2) (h : Fin 4) (i : Fin 256) (j : Fin 2048) :
    maskedV S (ix4 b h i j) = Scalar.select (Cert.KernelIdeal.Hyper.bit i j) (S (ix4 b h i j)) ⊥ := by
  pointwise [maskedV]
  rw [maskV_at]
  exact congrArg (Scalar.select _ _) neg_inf

theorem expV_at (S : FS) (b : Fin 2) (h : Fin 4) (i : Fin 256) (j : Fin 2048) :
    expV S (ix4 b h i j) = Ideal.exp (S (ix4 b h i j) - Finset.univ.fold max ⊥ fun x => S (ix4 b h i x)) := by
  pointwise [expV]
  rw [neg_inf]

theorem weightV_at (E : FS) (b : Fin 2) (h : Fin 4) (i : Fin 256) (j : Fin 2048) :
    weightV E (ix4 b h i j) = Ideal.div (E (ix4 b h i j)) (∑ j', E (ix4 b h i j')) := by
  pointwise [weightV]
  rw [keepV_at]
  rfl

theorem ctxV_at (V : FK) (W : FS) (b : Fin 2) (i : Fin 256) (h : Fin 4) (d : Fin 64) :
    ctxV V W (ix3 b i ⟨64 * (h : ℕ) + d, by omega⟩) = ∑ j : Fin 2048, V (ix4 b j h d) * W (ix4 b h i j) := by
  pointwise [ctxV]

theorem outV_at (C : FVec Ideal S2x256x256 .f32) (Wo : FO) (b : Fin 2) (i : Fin 256) (o : Fin 512) :
    outV C Wo (ix3 b i o) = ∑ n : Fin 256, C (ix3 b i n) * Wo (ix2 n o) := by
  pointwise [outV]

end Cert.ReferenceIdeal.Stages
-- ==== Proof.Value.Softmax.lean ====
/-
# Softmax without its shift

Over the extended reals the softmax average of a row of values does not see the row's greatest score: with real
scores under a mask that keeps at least one of them, dividing after the sum and dividing each weight give the same.
-/
module

public import Idealize.ShloMosaic.Lib.Pointwise

@[expose] public section

noncomputable section

namespace Cert.KernelIdeal.Hyper

open Idealize.ShloMosaic

/-- A real that is not negative comes out of a sum of extended reals. -/
theorem sum_mul_real {A : Type} (s : Finset A) (f : A → EReal) (r : ℝ) (hr : 0 ≤ r) :
    (∑ a ∈ s, f a) * (r : EReal) = ∑ a ∈ s, f a * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A sum of reals is a real. -/
theorem coe_sum {A : Type} (s : Finset A) (f : A → ℝ) : ∑ a ∈ s, (f a : EReal) = ((∑ a ∈ s, f a : ℝ) : EReal) := by
  classical
  induction s using Finset.induction_on with
  | empty => simp
  | insert a s ha ih => rw [Finset.sum_insert ha, Finset.sum_insert ha, ih, EReal.coe_add]

/-- The greatest of a row's scores under the mask, which keeps one of them, is a real. -/
theorem fold_max_real {A : Type} [Fintype A] (p : A → Prop) [DecidablePred p] (x : A → ℝ) (a₀ : A) (h₀ : p a₀) :
    ∃ M : ℝ, (Finset.univ.fold max ⊥ fun a => if p a then (x a : EReal) else ⊥) = (M : EReal) := by
  classical
  have hlow : ((x a₀ : ℝ) : EReal) ≤ Finset.univ.fold max ⊥ fun a => if p a then (x a : EReal) else ⊥ :=
    Finset.le_fold_max _ |>.mpr (Or.inr ⟨a₀, Finset.mem_univ _, by rw [if_pos h₀]⟩)
  have hup : (Finset.univ.fold max ⊥ fun a => if p a then (x a : EReal) else ⊥) < ⊤ :=
    Finset.fold_max_lt _ |>.mpr ⟨bot_lt_top, fun a _ => by
      by_cases h : p a
      · rw [if_pos h]; exact EReal.coe_lt_top _
      · rw [if_neg h]; exact bot_lt_top⟩
  exact ⟨_, (EReal.coe_toReal hup.ne (ne_bot_of_le_ne_bot (EReal.coe_ne_bot _) hlow)).symm⟩

/-- The weighted sum of the values, divided by the sum of the weights, is the softmax average of the values: the
    weights are the exponentials of the scores that the mask keeps, and the average takes each of them under the
    row's greatest score. -/
theorem softmax_eq {A : Type} [Fintype A] (p : A → Prop) [DecidablePred p] (x : A → ℝ) (v : A → EReal) (a₀ : A) (h₀ : p a₀)
    (w E : A → EReal) (Mx : EReal)
    (hw : ∀ a, w a = if p a then ((Real.exp (x a) : ℝ) : EReal) else 0)
    (hM : Mx = Finset.univ.fold max ⊥ fun a => if p a then (x a : EReal) else ⊥)
    (hE : ∀ a, E a = Ideal.exp ((if p a then (x a : EReal) else ⊥) - Mx)) :
    (∑ a, w a * v a) * Ideal.div 1 (∑ a, w a) = ∑ a, v a * Ideal.div (E a) (∑ a', E a') := by
  classical
  obtain ⟨M, hMr⟩ := fold_max_real p x a₀ h₀
  rw [hMr] at hM
  subst hM
  let u : A → ℝ := fun a => if p a then Real.exp (x a) else 0
  have hu : ∀ a, 0 ≤ u a := fun a => by
    by_cases h : p a
    · simp only [u, if_pos h]; exact (Real.exp_pos _).le
    · simp only [u, if_neg h]; exact le_rfl
  have hw' : ∀ a, w a = ((u a : ℝ) : EReal) := fun a => by
    rw [hw a]
    by_cases h : p a
    · simp only [u, if_pos h]
    · simp only [u, if_neg h, EReal.coe_zero]
  have hE' : ∀ a, E a = ((u a * Real.exp (-M) : ℝ) : EReal) := fun a => by
    rw [hE a]
    by_cases h : p a
    · simp only [u, if_pos h]
      rw [← EReal.coe_sub, Ideal.exp_coe, ← Real.exp_add, sub_eq_add_neg]
    · simp only [u, if_neg h, zero_mul, EReal.coe_zero]
      rw [EReal.bot_sub, Ideal.exp_bot]
  have hpos : 0 < ∑ a, u a := Finset.sum_pos' (fun a _ => hu a)
    ⟨a₀, Finset.mem_univ _, by simp only [u, if_pos h₀]; exact Real.exp_pos _⟩
  have he : 0 < Real.exp (-M) := Real.exp_pos _
  simp only [hw', hE']
  rw [coe_sum, coe_sum, ← Finset.sum_mul, Ideal.div_coe hpos.ne', one_mul,
    sum_mul_real _ _ _ (one_div_pos.mpr hpos).le]
  refine Finset.sum_congr rfl fun a _ => ?_
  rw [Ideal.div_coe (mul_pos hpos he).ne', ← EReal.coe_mul, mul_comm (u a : EReal), mul_assoc, ← EReal.coe_mul]
  congr 2
  field_simp

end Cert.KernelIdeal.Hyper
-- ==== Proof.Value.Equal.lean ====
/-
# The output is the reference's

The partial sums that the devices exchange add up to the sums over all the keys, and the average they give is the
softmax average that the reference takes.
-/
module

public import proofs.«01_k».proof.Proof.Value.Out
public import proofs.«01_k».proof.Proof.Value.Ref
public import proofs.«01_k».proof.Proof.Value.Softmax

@[expose] public section

set_option maxRecDepth 16384

noncomputable section

namespace Cert.KernelIdeal.Hyper

open Cert.KernelIdeal Cert.KernelIdeal.Gen

open Idealize.ShloMosaic
open Idealize.ShloMosaic.TcCoe

open Cert.ReferenceIdeal.Stages (FX FQ FK FO FS scoreV maskedV expV weightV ctxV outV)

/-- The key at place `j` of device `c`'s block. -/
abbrev key (c : Fin 8) (j : Fin 256) : Fin 2048 := ⟨256 * (c : ℕ) + j, by omega⟩

/-- A sum over the devices' blocks is a sum over all keys. -/
theorem sum_keys (f : Fin 2048 → EReal) : ∑ c : Fin 8, ∑ j : Fin 256, f (key c j) = ∑ j, f j := by
  rw [← Fintype.sum_prod_type' (f := fun c j => f (key c j))]
  refine Fintype.sum_equiv (finProdFinEquiv (m := 8) (n := 256)) _ _ fun p => congrArg f (Fin.ext ?_)
  show 256 * (p.1 : ℕ) + p.2 = p.2 + 256 * p.1
  omega

/-- A score before its scale. -/
def raw (X : FX) (Wq : FQ) (K : FK) (b : Fin 2) (h : Fin 4) (i : Fin 256) (j : Fin 2048) : EReal :=
  ∑ d : Fin 64, (∑ e : Fin 512, X (ix3 b i e) * Wq (ix2 e ⟨64 * (h : ℕ) + d, by omega⟩)) * K (ix4 b j h d)

/-- The kernel's weight of a key. -/
def wt (X : FX) (Wq : FQ) (K : FK) (b : Fin 2) (h : Fin 4) (i : Fin 256) (j : Fin 2048) : EReal :=
  Scalar.select (bit i j) (Ideal.exp2 (raw X Wq K b h i j * sc)) 0

section Sums

variable (m : (ℓ : Loc nD τ sig) → Buf (Elt Ideal) ℓ) (ρ : Dev nD → PrngReg)
variable (X : FX) (Wq : FQ) (K V : FK) (Wo : FO)
variable (hX : ∀ c, aX m c = X) (hWq : ∀ c, aWq m c = Wq) (hWo : ∀ c, aWo m c = Wo)
variable (hK : ∀ (c : Dev nD) b j h d, aK m c (ix4 b j h d) = K (ix4 b (key c j) h d))
variable (hV : ∀ (c : Dev nD) b j h d, aV m c (ix4 b j h d) = V (ix4 b (key c j) h d))

include hX hWq hK in
theorem headW_wt (c : Dev nD) (b : Fin 2) (h : Fin 4) (i j : Fin 256) :
    headW h (mk c) (qAll (ldwq m ρ c) (ldx m ρ b c)) (ldk m ρ b c) (ix2 i j) = wt X Wq K b h i (key c j) := by
  rw [headW_at, mk_at]
  simp only [qAll_at, ldx_at, ldwq_at, ldk_at, hX, hWq, hK]
  rfl

include hX hWq hK hV in
theorem numH_at (c : Dev nD) (b : Fin 2) (h : Fin 4) (i : Fin 256) (d : Fin 64) :
    numH m ρ c b h (ix5 0 0 0 i d) = ∑ j : Fin 256, wt X Wq K b h i (key c j) * V (ix4 b (key c j) h d) := by
  rw [numH_eq, headN_at]
  refine Finset.sum_congr rfl fun j _ => ?_
  rw [headW_wt m ρ X Wq K hX hWq hK, ldv_at, hV]

include hX hWq hK in
theorem denH_at (c : Dev nD) (b : Fin 2) (h : Fin 4) (e : Fin 8) (i : Fin 256) :
    denH m ρ c b h (ix4 0 0 e i) = ∑ j : Fin 256, wt X Wq K b h i (key c j) := by
  rw [denH_eq, headD_at]
  exact Finset.sum_congr rfl fun j _ => headW_wt m ρ X Wq K hX hWq hK c b h i j

include hX hWq hK hV in
/-- The numerators after the last round. -/
theorem num_all (c : Dev nD) (b hp e : Fin 2) (i : Fin 256) (d : Fin 64) :
    (NX m ρ 2 b hp c (ix5 0 0 0 i ⟨64 * (e : ℕ) + d, by omega⟩) + NX m ρ 2 b hp (par 2 c) (ix5 0 0 0 i ⟨64 * (e : ℕ) + d, by omega⟩) : EReal)
      = ∑ j : Fin 2048, wt X Wq K b ⟨2 * hp + e, by omega⟩ i j * V (ix4 b j ⟨2 * hp + e, by omega⟩ d) := by
  simp only [NX_succ_at, NX_zero_at]
  refine (sum_rounds (A := EReal) (fun c' => numH m ρ c' b ⟨2 * hp + e, by omega⟩ (ix5 0 0 0 i d)) c).trans ?_
  rw [← sum_keys]
  exact Finset.sum_congr rfl fun c' _ => numH_at m ρ X Wq K V hX hWq hK hV c' b _ i d

include hX hWq hK in
/-- The denominators after the last round. -/
theorem den_all (c : Dev nD) (b : Fin 2) (h : Fin 4) (i : Fin 256) :
    (DX m ρ 2 b c (ix4 0 0 0 ⟨256 * (h : ℕ) + i, by omega⟩) + DX m ρ 2 b (par 2 c) (ix4 0 0 0 ⟨256 * (h : ℕ) + i, by omega⟩) : EReal)
      = ∑ j : Fin 2048, wt X Wq K b h i j := by
  simp only [DX_succ_at, DX_zero_at]
  refine (sum_rounds (A := EReal) (fun c' => denH m ρ c' b h (ix4 0 0 0 i)) c).trans ?_
  rw [← sum_keys]
  exact Finset.sum_congr rfl fun c' _ => denH_at m ρ X Wq K hX hWq hK c' b h 0 i

end Sums

/-- A product of reals is a real, -/
theorem real_mul {x y : EReal} (hx : ∃ r : ℝ, x = (r : EReal)) (hy : ∃ r : ℝ, y = (r : EReal)) : ∃ r : ℝ, x * y = (r : EReal) := by
  obtain ⟨r, rfl⟩ := hx
  obtain ⟨s, rfl⟩ := hy
  exact ⟨r * s, (EReal.coe_mul r s).symm⟩

/-- and so is a sum of them. -/
theorem real_sum {A : Type} (s : Finset A) (f : A → EReal) (hf : ∀ a, ∃ r : ℝ, f a = (r : EReal)) : ∃ r : ℝ, ∑ a ∈ s, f a = (r : EReal) := by
  choose r hr using hf
  exact ⟨∑ a ∈ s, r a, by simp only [hr]; exact coe_sum s r⟩

/-- The power of two that the kernel takes is the exponential of an eighth of the score. -/
theorem exp2_sc (r : ℝ) : Ideal.exp2 ((r : EReal) * sc) = ((Real.exp (r * (1 / 8)) : ℝ) : EReal) := by
  rw [sc, ← EReal.coe_mul, Ideal.exp2_coe]
  congr 1
  have hl : Real.log 2 ≠ 0 := (Real.log_pos (by norm_num)).ne'
  show (2 : ℝ) ^ (r * (8 * Real.log 2)⁻¹) = _
  rw [Real.rpow_def_of_pos (by norm_num)]
  congr 1
  field_simp

theorem select_one {x y : EReal} (p : BitVec 1) : Scalar.select p x y = if p = 1#1 then x else y := rfl

/-- The kernel's average is the reference's. -/
theorem average_eq (X : FX) (Wq : FQ) (K V : FK) (hX : ∀ i, ∃ r : ℝ, (X i : EReal) = (r : EReal))
    (hWq : ∀ i, ∃ r : ℝ, (Wq i : EReal) = (r : EReal)) (hK : ∀ i, ∃ r : ℝ, (K i : EReal) = (r : EReal))
    (b : Fin 2) (h : Fin 4) (i : Fin 256) (d : Fin 64) :
    (∑ j : Fin 2048, wt X Wq K b h i j * V (ix4 b j h d)) * Ideal.div 1 (∑ j : Fin 2048, wt X Wq K b h i j)
      = ctxV V (weightV (expV (maskedV (scoreV X Wq K)))) (ix3 b i ⟨64 * (h : ℕ) + d, by omega⟩) := by
  have hr : ∀ j, ∃ r : ℝ, raw X Wq K b h i j = (r : EReal) := fun j =>
    real_sum _ _ fun d => real_mul (real_sum _ _ fun e => real_mul (hX _) (hWq _)) (hK _)
  choose r hr using hr
  rw [Cert.ReferenceIdeal.Stages.ctxV_at]
  simp only [Cert.ReferenceIdeal.Stages.weightV_at]
  have hS : ∀ j, maskedV (scoreV X Wq K) (ix4 b h i j) = if bit i j = 1#1 then ((r j * (1 / 8) : ℝ) : EReal) else ⊥ := fun j => by
    rw [Cert.ReferenceIdeal.Stages.maskedV_at, Cert.ReferenceIdeal.Stages.scoreV_at, select_one, EReal.coe_mul, ← hr j]
    rfl
  refine softmax_eq (fun j : Fin 2048 => bit i j = 1#1) (fun j => r j * (1 / 8)) (fun j => V (ix4 b j h d)) 0 (bit_zero i)
    _ (fun j => expV (maskedV (scoreV X Wq K)) (ix4 b h i j))
    (Finset.univ.fold max ⊥ fun j => maskedV (scoreV X Wq K) (ix4 b h i j)) (fun j => ?_) ?_ (fun j => ?_)
  · unfold wt
    rw [select_one, hr j, exp2_sc]
  · simp only [hS]
  · rw [Cert.ReferenceIdeal.Stages.expV_at, hS j]

/-- Every device's output is the reference's, at an index, -/
theorem out_at (m : (ℓ : Loc nD τ sig) → Buf (Elt Ideal) ℓ) (ρ : Dev nD → PrngReg)
    (X : FX) (Wq : FQ) (K V : FK) (Wo : FO)
    (hX : ∀ c, aX m c = X) (hWq : ∀ c, aWq m c = Wq) (hWo : ∀ c, aWo m c = Wo)
    (hK : ∀ (c : Dev nD) b j h d, aK m c (ix4 b j h d) = K (ix4 b (key c j) h d))
    (hV : ∀ (c : Dev nD) b j h d, aV m c (ix4 b j h d) = V (ix4 b (key c j) h d))
    (rX : ∀ i, ∃ r : ℝ, (X i : EReal) = (r : EReal)) (rWq : ∀ i, ∃ r : ℝ, (Wq i : EReal) = (r : EReal))
    (rK : ∀ i, ∃ r : ℝ, (K i : EReal) = (r : EReal)) (c : Dev nD)
    (b : Fin 2) (i : Fin 256) (o : Fin 512) :
    outAt m ρ c (ix3 b i o) = outV (ctxV V (weightV (expV (maskedV (scoreV X Wq K))))) Wo (ix3 b i o) := by
  refine (outAt_eq m ρ c b i o).trans ?_
  rw [outK_at]
  refine Eq.trans ?_ (Cert.ReferenceIdeal.Stages.outV_at _ Wo b i o).symm
  refine Finset.sum_congr rfl fun n _ => ?_
  rw [ldwo_at, hWo]
  congr 1
  obtain ⟨hp, e, d, rfl⟩ : ∃ (hp e : Fin 2) (d : Fin 64), n = ⟨128 * (hp : ℕ) + 64 * (e : ℕ) + d, by omega⟩ :=
    ⟨⟨n / 128, by omega⟩, ⟨n / 64 % 2, by omega⟩, ⟨n % 64, by omega⟩, Fin.ext (by dsimp only; omega)⟩
  have hn : (⟨128 * (hp : ℕ) + 64 * (e : ℕ) + d, by omega⟩ : Fin 256) = ⟨64 * ((⟨2 * hp + e, by omega⟩ : Fin 4) : ℕ) + d, by dsimp only; omega⟩ :=
    Fin.ext (by dsimp only; omega)
  refine Eq.trans ?_ ((average_eq X Wq K V rX rWq rK b ⟨2 * hp + e, by omega⟩ i d).trans (by rw [hn]))
  unfold ctxB
  rw [ctxK_at, headC_at, recip_at]
  have hi : (⟨512 * (hp : ℕ) + 256 * (e : ℕ) + i, by omega⟩ : Fin 1024) = ⟨256 * ((⟨2 * hp + e, by omega⟩ : Fin 4) : ℕ) + i, by dsimp only; omega⟩ :=
    Fin.ext (by dsimp only; omega)
  rw [hi, den_all m ρ X Wq K hX hWq hK, ← num_all m ρ X Wq K V hX hWq hK hV c b hp e i d]
  congr 1
  fin_cases hp
  · exact nSum_at _ _ _ _
  · exact nSum_at _ _ _ _

/-- and so the whole of it. -/
theorem out_eq (m : (ℓ : Loc nD τ sig) → Buf (Elt Ideal) ℓ) (ρ : Dev nD → PrngReg)
    (X : FX) (Wq : FQ) (K V : FK) (Wo : FO)
    (hX : ∀ c, aX m c = X) (hWq : ∀ c, aWq m c = Wq) (hWo : ∀ c, aWo m c = Wo)
    (hK : ∀ (c : Dev nD) b j h d, aK m c (ix4 b j h d) = K (ix4 b (key c j) h d))
    (hV : ∀ (c : Dev nD) b j h d, aV m c (ix4 b j h d) = V (ix4 b (key c j) h d))
    (rX : ∀ i, ∃ r : ℝ, (X i : EReal) = (r : EReal)) (rWq : ∀ i, ∃ r : ℝ, (Wq i : EReal) = (r : EReal))
    (rK : ∀ i, ∃ r : ℝ, (K i : EReal) = (r : EReal)) (c : Dev nD) :
    outAt m ρ c = outV (ctxV V (weightV (expV (maskedV (scoreV X Wq K))))) Wo := by
  funext y
  rw [eq_ix3 y]
  exact out_at m ρ X Wq K V Wo hX hWq hWo hK hV rX rWq rK c (y 0) (y 1) (y 2)

end Cert.KernelIdeal.Hyper
-- ==== Proof.Value.Pre.lean ====
/-
# What the precondition says

Every element of the queries' input, of the query weights and of the keys is a real.
-/
module

public import proofs.«01_k».proof.Proof.Gen.Pre_finite_scores_KernelIdeal
public import Idealize.ShloMosaic.Lib.Pointwise
public import Idealize.ShloMosaic.Lib.ReduceAll

@[expose] public section

set_option maxRecDepth 16384

noncomputable section

namespace Cert.KernelIdeal.Hyper

open Cert.Pre_finite_scores_KernelIdeal

open Idealize.ShloMosaic

/-- An extended real whose distance from zero is below the infinite is a real. -/
theorem real_of_lt (x : Ideal .f32) (h : FloatOps.cmpf .olt (FloatOps.hostAbsf x) (FloatOps.ofBits (F := Ideal) .f32 0x7F800000#32) = 1#1) :
    ∃ r : ℝ, (x : EReal) = (r : EReal) := by
  have ht : (FloatOps.ofBits (F := Ideal) .f32 0x7F800000#32 : EReal) = ⊤ := by
    show Ideal.ofBits .f32 0x7F800000#32 = ⊤
    simp [Ideal.ofBits, Ideal.ieee]
  have hlt : max (x : EReal) (-x) < ⊤ := by
    by_contra hn
    have h0 : FloatOps.cmpf .olt (FloatOps.hostAbsf x) (FloatOps.ofBits (F := Ideal) .f32 0x7F800000#32) = 0#1 := by
      rw [ht]
      show Ideal.cmp .olt (max (x : EReal) (-x)) ⊤ = 0#1
      simp only [Ideal.cmp, hn, if_false, decide_false]
      rfl
    rw [h0] at h
    exact absurd h (by decide)
  have hx := max_lt_iff.1 hlt
  exact ⟨_, (EReal.coe_toReal hx.1.ne fun hb => by rw [hb] at hx; simp at hx).symm⟩

theorem pre_real [hF : Facts] (X : FVec Ideal S2x256x512 .bf16) (Wq : FVec Ideal S512x256 .bf16) (K V : FVec Ideal S2x256x4x64 .bf16)
    (Wo : FVec Ideal S256x512 .bf16) (h : fn (F := Ideal) X Wq K V Wo = fun _ => 1#1) :
    (∀ i, ∃ r : ℝ, (X i : EReal) = (r : EReal)) ∧ (∀ i, ∃ r : ℝ, (Wq i : EReal) = (r : EReal))
      ∧ (∀ i, ∃ r : ℝ, (K i : EReal) = (r : EReal)) := by
  have h0 := congrFun h ix0
  obtain ⟨h01, h2⟩ := IntOp.andi_eq_one.1 h0
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.KernelIdeal.Hyper
-- ==== Proof.lean ====
module

public import proofs.«01_k».proof.Defs
public import proofs.«01_k».proof.Proof.Kernel.Final
public import proofs.«01_k».proof.Proof.KernelIdeal.Final
public import proofs.«01_k».proof.Proof.Gen.ReferenceIdeal
public import proofs.«01_k».proof.Proof.Gen.Pre_finite_scores_KernelIdeal
public import proofs.«01_k».proof.Proof.Gen.Pre_finite_scores_ReferenceIdeal
public import proofs.«01_k».proof.Proof.Gen.ReferenceIdeal.Run
public import proofs.«01_k».proof.Proof.Value.Equal
public import proofs.«01_k».proof.Proof.Value.Pre
public import Idealize.ShloMosaic.Lib.LayoutAt
public import Idealize.ShloMosaic.Adequacy
public import Idealize.ShloMosaic.Init

@[expose] public section

noncomputable section

namespace Cert.Proof

open Idealize.ShloMosaic Idealize.SL.Sem

/-- The kernel runs, leaves its arguments alone and every counter at zero. -/
theorem frame_kernel : Cert.quiescent_Kernel := fun m ρ _ =>
  (θ_run (Cert.Kernel.defs (F := Bits)) _ _).mono (fun _ h => ⟨fun c => (h.1 c).2, h.2⟩)
    (Cert.Kernel.Hyper.run_named m ρ)

/-- The same of the kernel with its scale named. -/
theorem frame_kernelIdeal : Cert.quiescent_KernelIdeal := fun m ρ _ =>
  (θ_run (Cert.KernelIdeal.defs (F := Ideal)) _ _).mono (fun _ h => ⟨fun c => (h.1 c).2, h.2⟩)
    (Cert.KernelIdeal.Hyper.run_named m ρ)

/-- The same of the reference. -/
theorem frame_referenceIdeal : Cert.quiescent_ReferenceIdeal := fun m ρ _ =>
  (θ_run (Cert.ReferenceIdeal.defs (F := Ideal)) _ _).mono (fun r h => ⟨fun c => (h c).2,
      sem_eq_zero_of_no_sems (by decide) r.2⟩)
    (Cert.ReferenceIdeal.Value.run (F := Ideal) m ρ)

/-- The scale the kernel multiplies by is the rounding of `1 / (8 log 2)`. -/
theorem preserves : Cert.preserves_Kernel_KernelIdeal :=
  IdealRules.named_const.statement Cert.KernelIdeal.κ "scale" .f32 0x3E38AA3B#32 _ rfl

open Cert.KernelIdeal.Hyper (key) in
/-- A device's block of an array, read at an index. -/
theorem block_at (A : Cert.ReferenceIdeal.Stages.FK) (c : Fin 8) (b : Fin 2) (j : Fin 256) (h : Fin 4) (d : Fin 64) :
    (Layout.block ⟨4, ![2, 256, 4, 64]⟩ ⟨4, ![2, 2048, 4, 64]⟩ 1 8 c A : Cert.KernelIdeal.S2x256x4x64.Idx → EReal) (ix4 b j h d) = A (ix4 b (key c j) h d) := by
  shard_ext

open Cert.KernelIdeal.Hyper (key) in
/-- Every place among all the keys is a place in some device's block: what holds over the blocks holds of the array. -/
theorem forall_keys {P : EReal → Prop} (A : Cert.ReferenceIdeal.Stages.FK)
    (hA : ∀ (c : Fin 8) b j h d, P (A (ix4 b (key c j) h d))) (i : Cert.ReferenceIdeal.S2x2048x4x64.Idx) : P (A i) := by
  have hall : ∀ (b : Fin 2) (y : Fin 2048) (h : Fin 4) (d : Fin 64), P (A (ix4 b y h d)) := fun b y h d => by
    have hy : y = key ⟨y / 256, by omega⟩ ⟨y % 256, by omega⟩ := Fin.ext (by dsimp only [key]; omega)
    rw [hy]
    exact hA _ _ _ _ _
  rw [eq_ix4 i]
  exact hall (i 0) (i 1) (i 2) (i 3)

open Cert.KernelIdeal.Hyper in
/-- On finite queries, query weights and keys the kernel and the reference end in one array on every device. -/
theorem algebraic : Cert.algebraic_KernelIdeal_ReferenceIdeal_pre_finite_scores_KernelIdeal := by
  intro m g m' g' hpre harg
  have hr := fun c => pre_real _ _ _ _ _ (hpre c)
  have hK : ∀ (c : Dev Cert.KernelIdeal.nD) b j h d, aK m c (ix4 b j h d)
      = (m' (((0 : Dev Cert.ReferenceIdeal.nD).tc : Thread Cert.ReferenceIdeal.nD Cert.ReferenceIdeal.τ).loc Cert.ReferenceIdeal.main_arg2) : Cert.ReferenceIdeal.Stages.FK) (ix4 b (key c j) h d) :=
    fun c b j h d => (congrFun (harg c).2.2.1 _).trans (block_at _ c b j h d)
  have hV : ∀ (c : Dev Cert.KernelIdeal.nD) b j h d, aV m c (ix4 b j h d)
      = (m' (((0 : Dev Cert.ReferenceIdeal.nD).tc : Thread Cert.ReferenceIdeal.nD Cert.ReferenceIdeal.τ).loc Cert.ReferenceIdeal.main_arg3) : Cert.ReferenceIdeal.Stages.FK) (ix4 b (key c j) h d) :=
    fun c b j h d => (congrFun (harg c).2.2.2.1 _).trans (block_at _ c b j h d)
  have hout := fun c => out_eq m g _ _ _ _ _ (fun c => (harg c).1) (fun c => (harg c).2.1) (fun c => (harg c).2.2.2.2) hK hV
    (fun i => by rw [← (harg 0).1]; exact (hr 0).1 i) (fun i => by rw [← (harg 0).2.1]; exact (hr 0).2.1 i)
    (forall_keys (P := fun x => ∃ r : ℝ, x = (r : EReal)) _ fun c b j h d => by
      obtain ⟨r, h⟩ := (hr c).2.2 (ix4 b j h d)
      exact ⟨r, (hK c b j _ d).symm.trans h⟩) c
  refine ⟨Cert.ReferenceIdeal.Value.res_main_v45 m' 0, ?_, ?_⟩
  · refine (θ_run _ _ _).mono (fun _ h c => ⟨(h.1 c).1.trans ?_, (h.1 c).2⟩) (run_named m g)
    exact (hout c).trans (Cert.ReferenceIdeal.Stages.res_eq m' 0).symm
  · exact (θ_run _ _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m ρ _ => frame_kernelIdeal m ρ trivial,
    frame_referenceIdeal, fun m ρ _ => frame_referenceIdeal m ρ trivial, preserves, algebraic⟩

end Cert.Proof

end
